-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_shares_within_15_KernelIdeal [hPre_shares_within_15_KernelIdeal : Cert.Pre_shares_within_15_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_shares_within_15_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ClippedReferenceIdeal (m : (ℓ : Loc Cert.ClippedReferenceIdeal.nD Cert.ClippedReferenceIdeal.τ Cert.ClippedReferenceIdeal.sig) → Buf (Elt Ideal) ℓ) : Prop :=
  True

def Pre_ClippedReferenceIdeal_shares_within_15_ClippedReferenceIdeal [hPre_shares_within_15_ClippedReferenceIdeal : Cert.Pre_shares_within_15_ClippedReferenceIdeal.Facts] (m : (ℓ : Loc Cert.ClippedReferenceIdeal.nD Cert.ClippedReferenceIdeal.τ Cert.ClippedReferenceIdeal.sig) → Buf (Elt Ideal) ℓ) : Prop :=
  ∀ c : Dev Cert.ClippedReferenceIdeal.nD,
    (Cert.Pre_shares_within_15_ClippedReferenceIdeal.fn (F := Ideal) (m ((c.tc : Thread Cert.ClippedReferenceIdeal.nD Cert.ClippedReferenceIdeal.τ).loc Cert.ClippedReferenceIdeal.main_arg0)) (m ((c.tc : Thread Cert.ClippedReferenceIdeal.nD Cert.ClippedReferenceIdeal.τ).loc Cert.ClippedReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_shares_within_15_KernelIdeal [hKernelIdeal : Cert.KernelIdeal.Facts] [hPre_shares_within_15_KernelIdeal : Cert.Pre_shares_within_15_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_shares_within_15_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ClippedReferenceIdeal [hClippedReferenceIdeal : Cert.ClippedReferenceIdeal.Facts] : Prop :=
  ∀ (m : (ℓ : Loc Cert.ClippedReferenceIdeal.nD Cert.ClippedReferenceIdeal.τ Cert.ClippedReferenceIdeal.sig) → Buf (Elt Ideal) ℓ) (g : Dev Cert.ClippedReferenceIdeal.nD → PrngReg), Pre_ClippedReferenceIdeal m →
    θ_run (Cert.ClippedReferenceIdeal.defs (F := Ideal)) (onTc (τ := Cert.ClippedReferenceIdeal.τ) (Cert.ClippedReferenceIdeal.main (F := Ideal))) ⟨m, fun _ => 0, g⟩ (fun r => (∀ c : Dev Cert.ClippedReferenceIdeal.nD,
      r.2.mem ((c.tc : Thread Cert.ClippedReferenceIdeal.nD Cert.ClippedReferenceIdeal.τ).loc Cert.ClippedReferenceIdeal.main_arg0) = m ((c.tc : Thread Cert.ClippedReferenceIdeal.nD Cert.ClippedReferenceIdeal.τ).loc Cert.ClippedReferenceIdeal.main_arg0)
      ∧ r.2.mem ((c.tc : Thread Cert.ClippedReferenceIdeal.nD Cert.ClippedReferenceIdeal.τ).loc Cert.ClippedReferenceIdeal.main_arg1) = m ((c.tc : Thread Cert.ClippedReferenceIdeal.nD Cert.ClippedReferenceIdeal.τ).loc Cert.ClippedReferenceIdeal.main_arg1))
      ∧ r.2.sem = fun _ => 0)

def quiescent_ClippedReferenceIdeal_pre_shares_within_15_ClippedReferenceIdeal [hClippedReferenceIdeal : Cert.ClippedReferenceIdeal.Facts] [hPre_shares_within_15_ClippedReferenceIdeal : Cert.Pre_shares_within_15_ClippedReferenceIdeal.Facts] : Prop :=
  ∀ (m : (ℓ : Loc Cert.ClippedReferenceIdeal.nD Cert.ClippedReferenceIdeal.τ Cert.ClippedReferenceIdeal.sig) → Buf (Elt Ideal) ℓ) (g : Dev Cert.ClippedReferenceIdeal.nD → PrngReg), Pre_ClippedReferenceIdeal_shares_within_15_ClippedReferenceIdeal m →
    θ_run (Cert.ClippedReferenceIdeal.defs (F := Ideal)) (onTc (τ := Cert.ClippedReferenceIdeal.τ) (Cert.ClippedReferenceIdeal.main (F := Ideal))) ⟨m, fun _ => 0, g⟩ (fun r => (∀ c : Dev Cert.ClippedReferenceIdeal.nD,
      r.2.mem ((c.tc : Thread Cert.ClippedReferenceIdeal.nD Cert.ClippedReferenceIdeal.τ).loc Cert.ClippedReferenceIdeal.main_arg0) = m ((c.tc : Thread Cert.ClippedReferenceIdeal.nD Cert.ClippedReferenceIdeal.τ).loc Cert.ClippedReferenceIdeal.main_arg0)
      ∧ r.2.mem ((c.tc : Thread Cert.ClippedReferenceIdeal.nD Cert.ClippedReferenceIdeal.τ).loc Cert.ClippedReferenceIdeal.main_arg1) = m ((c.tc : Thread Cert.ClippedReferenceIdeal.nD Cert.ClippedReferenceIdeal.τ).loc Cert.ClippedReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 2048]⟩ ⟨2, ![4096, 2048]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ClippedReferenceIdeal_pre_shares_within_15_KernelIdeal [hKernelIdeal : Cert.KernelIdeal.Facts] [hClippedReferenceIdeal : Cert.ClippedReferenceIdeal.Facts] [hPre_shares_within_15_KernelIdeal : Cert.Pre_shares_within_15_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ClippedReferenceIdeal.nD Cert.ClippedReferenceIdeal.τ Cert.ClippedReferenceIdeal.sig) → Buf (Elt Ideal) ℓ) (g' : Dev Cert.ClippedReferenceIdeal.nD → PrngReg), Pre_KernelIdeal_shares_within_15_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 4096]⟩ 1 4 c (m' (((0 : Dev Cert.ClippedReferenceIdeal.nD).tc : Thread Cert.ClippedReferenceIdeal.nD Cert.ClippedReferenceIdeal.τ).loc Cert.ClippedReferenceIdeal.main_arg0))
      ∧ m ((c.tc : Thread Cert.KernelIdeal.nD Cert.KernelIdeal.τ).loc Cert.KernelIdeal.main_arg1) = Layout.block ⟨2, ![1024, 2048]⟩ ⟨2, ![4096, 2048]⟩ 0 4 c (m' (((0 : Dev Cert.ClippedReferenceIdeal.nD).tc : Thread Cert.ClippedReferenceIdeal.nD Cert.ClippedReferenceIdeal.τ).loc Cert.ClippedReferenceIdeal.main_arg1))) →
    ∃ (v0 : Buf (Elt Ideal) (((0 : Dev Cert.ClippedReferenceIdeal.nD).tc : Thread Cert.ClippedReferenceIdeal.nD Cert.ClippedReferenceIdeal.τ).loc Cert.ClippedReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ClippedReferenceIdeal.defs (F := Ideal)) (onTc (τ := Cert.ClippedReferenceIdeal.τ) (Cert.ClippedReferenceIdeal.main (F := Ideal))) ⟨m', fun _ => 0, g'⟩ (fun r =>
          r.2.mem (((0 : Dev Cert.ClippedReferenceIdeal.nD).tc : Thread Cert.ClippedReferenceIdeal.nD Cert.ClippedReferenceIdeal.τ).loc Cert.ClippedReferenceIdeal.main_v9) = v0
          ∧ r.2.mem (((0 : Dev Cert.ClippedReferenceIdeal.nD).tc : Thread Cert.ClippedReferenceIdeal.nD Cert.ClippedReferenceIdeal.τ).loc Cert.ClippedReferenceIdeal.main_arg0) = m' (((0 : Dev Cert.ClippedReferenceIdeal.nD).tc : Thread Cert.ClippedReferenceIdeal.nD Cert.ClippedReferenceIdeal.τ).loc Cert.ClippedReferenceIdeal.main_arg0)
          ∧ r.2.mem (((0 : Dev Cert.ClippedReferenceIdeal.nD).tc : Thread Cert.ClippedReferenceIdeal.nD Cert.ClippedReferenceIdeal.τ).loc Cert.ClippedReferenceIdeal.main_arg1) = m' (((0 : Dev Cert.ClippedReferenceIdeal.nD).tc : Thread Cert.ClippedReferenceIdeal.nD Cert.ClippedReferenceIdeal.τ).loc Cert.ClippedReferenceIdeal.main_arg1))

def Claim : Prop :=
  ∃ (hKernel : Cert.Kernel.Facts) (hKernelIdeal : Cert.KernelIdeal.Facts) (hReferenceIdeal : Cert.ReferenceIdeal.Facts) (hClippedReferenceIdeal : Cert.ClippedReferenceIdeal.Facts) (hPre_shares_within_15_KernelIdeal : Cert.Pre_shares_within_15_KernelIdeal.Facts) (hPre_shares_within_15_ClippedReferenceIdeal : Cert.Pre_shares_within_15_ClippedReferenceIdeal.Facts),
    quiescent_Kernel (hKernel := hKernel)
    ∧ quiescent_KernelIdeal (hKernelIdeal := hKernelIdeal)
    ∧ quiescent_KernelIdeal_pre_shares_within_15_KernelIdeal (hKernelIdeal := hKernelIdeal) (hPre_shares_within_15_KernelIdeal := hPre_shares_within_15_KernelIdeal)
    ∧ quiescent_ReferenceIdeal (hReferenceIdeal := hReferenceIdeal)
    ∧ quiescent_ClippedReferenceIdeal (hClippedReferenceIdeal := hClippedReferenceIdeal)
    ∧ quiescent_ClippedReferenceIdeal_pre_shares_within_15_ClippedReferenceIdeal (hClippedReferenceIdeal := hClippedReferenceIdeal) (hPre_shares_within_15_ClippedReferenceIdeal := hPre_shares_within_15_ClippedReferenceIdeal)
    ∧ preserves_Kernel_KernelIdeal
    ∧ algebraic_KernelIdeal_ReferenceIdeal (hKernelIdeal := hKernelIdeal) (hReferenceIdeal := hReferenceIdeal)
    ∧ algebraic_KernelIdeal_ClippedReferenceIdeal_pre_shares_within_15_KernelIdeal (hKernelIdeal := hKernelIdeal) (hClippedReferenceIdeal := hClippedReferenceIdeal) (hPre_shares_within_15_KernelIdeal := hPre_shares_within_15_KernelIdeal)
-- ==== Pre_shares_within_15_ClippedReferenceIdeal.lean ====
abbrev S4096x4096 : Shape := ⟨2, ![4096, 4096]⟩
abbrev S4096x2048 : Shape := ⟨2, ![4096, 2048]⟩
abbrev S_ : Shape := ⟨0, ![]⟩

class Facts : Prop where
  bitsLt_bf16_f32 : FTy.bits .bf16 < FTy.bits .f32
  bcast_S_S4096x2048 : S_.BroadcastsInDim S4096x2048 (![] : Fin 0 → Fin S4096x2048.rank)
  reducesTo_S4096x2048_S_d0_1 : S4096x2048.ReducesTo [0, 1] S_
  h_S_ : 0 < S_.numel
  dot_S4096x4096_S4096x2048_S4096x2048_1_0_0_1_n_n_wf : DotDims.WF S4096x4096 S4096x2048 S4096x2048 [1] [0] [0] [1] [] []

variable [Facts]

def dot_S4096x4096_S4096x2048_S4096x2048_1_0_0_1_n_n : DotDims S4096x4096 S4096x2048 S4096x2048 where
  lhsContracting := [1]
  rhsContracting := [0]
  lhsNonContracting := [0]
  rhsNonContracting := [1]
  lhsBatch := []
  rhsBatch := []
  wf := dot_S4096x4096_S4096x2048_S4096x2048_1_0_0_1_n_n_wf
def fn {F : FTy → Type} [FloatOps F] (main_arg0 : FVec F S4096x4096 .bf16) (main_arg1 : FVec F S4096x2048 .bf16) : IVec S_ 1 :=
  let main_v0 : FVec F S4096x4096 .f32 := (extf .f32 · bitsLt_bf16_f32) main_arg0
  let main_v1 : FVec F S4096x2048 .f32 := (extf .f32 · bitsLt_bf16_f32) main_arg1
  let main_v2 : FVec F S4096x2048 .f32 := (fun l r => Host.dotGeneral dot_S4096x4096_S4096x2048_S4096x2048_1_0_0_1_n_n none l r) main_v0 main_v1
  let main_v3 : FVec F S4096x2048 .f32 := Host.absf main_v2
  let main_cst : FVec F S_ .f32 := constant S_ .f32 0x41700000#32
  let main_v4 : FVec F S4096x2048 .f32 := broadcastInDim S4096x2048 ![] bcast_S_S4096x2048 main_cst
  let main_v5 : IVec S4096x2048 1 := cmpf .ole main_v3 main_v4
  let main_c : IVec S_ 1 := constantI S_ 1 1#1
  let main_v6 : IVec S_ 1 := (fun x v => Host.reduce IntOp.andi x v reducesTo_S4096x2048_S_d0_1 h_S_) main_v5 main_c
  main_v6
-- ==== Pre_shares_within_15_KernelIdeal.lean ====
abbrev S4096x1024 : Shape := ⟨2, ![4096, 1024]⟩
abbrev S1024x2048 : Shape := ⟨2, ![1024, 2048]⟩
abbrev S4096x2048 : Shape := ⟨2, ![4096, 2048]⟩
abbrev S_ : Shape := ⟨0, ![]⟩

class Facts : Prop where
  bitsLt_bf16_f32 : FTy.bits .bf16 < FTy.bits .f32
  bcast_S_S4096x2048 : S_.BroadcastsInDim S4096x2048 (![] : Fin 0 → Fin S4096x2048.rank)
  reducesTo_S4096x2048_S_d0_1 : S4096x2048.ReducesTo [0, 1] S_
  h_S_ : 0 < S_.numel
  dot_S4096x1024_S1024x2048_S4096x2048_1_0_0_1_n_n_wf : DotDims.WF S4096x1024 S1024x2048 S4096x2048 [1] [0] [0] [1] [] []

variable [Facts]

def dot_S4096x1024_S1024x2048_S4096x2048_1_0_0_1_n_n : DotDims S4096x1024 S1024x2048 S4096x2048 where
  lhsContracting := [1]
  rhsContracting := [0]
  lhsNonContracting := [0]
  rhsNonContracting := [1]
  lhsBatch := []
  rhsBatch := []
  wf := dot_S4096x1024_S1024x2048_S4096x2048_1_0_0_1_n_n_wf
def fn {F : FTy → Type} [FloatOps F] (main_arg0 : FVec F S4096x1024 .bf16) (main_arg1 : FVec F S1024x2048 .bf16) : IVec S_ 1 :=
  let main_v0 : FVec F S4096x1024 .f32 := (extf .f32 · bitsLt_bf16_f32) main_arg0
  let main_v1 : FVec F S1024x2048 .f32 := (extf .f32 · bitsLt_bf16_f32) main_arg1
  let main_v2 : FVec F S4096x2048 .f32 := (fun l r => Host.dotGeneral dot_S4096x1024_S1024x2048_S4096x2048_1_0_0_1_n_n none l r) main_v0 main_v1
  let main_v3 : FVec F S4096x2048 .f32 := Host.absf main_v2
  let main_cst : FVec F S_ .f32 := constant S_ .f32 0x41700000#32
  let main_v4 : FVec F S4096x2048 .f32 := broadcastInDim S4096x2048 ![] bcast_S_S4096x2048 main_cst
  let main_v5 : IVec S4096x2048 1 := cmpf .ole main_v3 main_v4
  let main_c : IVec S_ 1 := constantI S_ 1 1#1
  let main_v6 : IVec S_ 1 := (fun x v => Host.reduce IntOp.andi x v reducesTo_S4096x2048_S_d0_1 h_S_) main_v5 main_c
  main_v6
-- ==== Kernel.lean ====
abbrev S4096x1024 : Shape := ⟨2, ![4096, 1024]⟩
abbrev S1024x2048 : Shape := ⟨2, ![1024, 2048]⟩
abbrev S4096x2048 : Shape := ⟨2, ![4096, 2048]⟩
abbrev S7x1024x1024 : Shape := ⟨3, ![7, 1024, 1024]⟩
abbrev S6x8 : Shape := ⟨2, ![6, 8]⟩
abbrev S2 : Shape := ⟨1, ![2]⟩
abbrev S_ : Shape := ⟨0, ![]⟩
abbrev S128x1024 : Shape := ⟨2, ![128, 1024]⟩
abbrev S1024x1024 : Shape := ⟨2, ![1024, 1024]⟩
abbrev S1x128x1024 : Shape := ⟨3, ![1, 128, 1024]⟩
abbrev S1x1 : Shape := ⟨2, ![1, 1]⟩
abbrev S1 : Shape := ⟨1, ![1]⟩
abbrev S1x1024x1024 : Shape := ⟨3, ![1, 1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .bf16⟩
  | .hbm, ⟨2, _⟩ => ⟨S4096x2048, .bf16⟩
  | .local _ .vmem, ⟨0, _⟩ => ⟨S4096x1024, .bf16⟩
  | .local _ .vmem, ⟨1, _⟩ => ⟨S1024x2048, .bf16⟩
  | .local _ .vmem, ⟨2, _⟩ => ⟨S1024x2048, .bf16⟩
  | .local _ .vmem, ⟨3, _⟩ => ⟨S7x1024x1024, .bf16⟩
  | .local _ .vmem, ⟨4, _⟩ => ⟨S7x1024x1024, .bf16⟩
  | _, _ => ⟨S4096x1024, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 196 → Bool
  | ⟨i, _⟩ => dmaSemScopedAt i

abbrev sig : RefSig :=
  (ofTc nBuf bufTy 1 196 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_4 : BitVec 32 := 1#32
  let v8 : BitVec 32 := Scalar.muli v4 c1_i32_4
  let v9 : BitVec 32 := Scalar.addi c0_i32 v8
  v9.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_6 : BitVec 32 := 1#32
  let v10 : BitVec 32 := Scalar.muli v6 c1_i32_6
  let v11 : BitVec 32 := Scalar.addi c0_i32_7 v10
  v11.toNat
def k0_off1 (d0 : Dev nD) (c0_i32_12 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c7_i32 : BitVec 32 := 7#32
  let v17 : BitVec 32 := Scalar.addi v2 c7_i32
  let c4_i32_11 : BitVec 32 := 4#32
  let v18 : BitVec 32 := Scalar.remsi v17 c4_i32_11
  let c1024_i32 : BitVec 32 := 1024#32
  let v19 : BitVec 32 := Scalar.muli v18 c1024_i32
  let v20 : BitVec 32 := Scalar.addi v19 c0_i32_12
  let v21 : Index := Scalar.indexCast v20
  let c0_13 : Index := 0#32
  ![v21.toNat, 0]
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_25 : BitVec 32 := 1#32
  let v30 : BitVec 32 := Scalar.muli v6 c1_i32_25
  let v31 : BitVec 32 := Scalar.addi c0_i32_26 v30
  v31.toNat
def k0_off2 (d0 : Dev nD) (c0_i32_35 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_31 : BitVec 32 := 1#32
  let v40 : BitVec 32 := Scalar.addi v2 c1_i32_31
  let c0_i32_32 : BitVec 32 := 0#32
  let v41 : BitVec 32 := Scalar.addi v40 c0_i32_32
  let c4_i32_33 : BitVec 32 := 4#32
  let v42 : BitVec 32 := Scalar.remsi v41 c4_i32_33
  let c1024_i32_34 : BitVec 32 := 1024#32
  let v43 : BitVec 32 := Scalar.muli v42 c1024_i32_34
  let v44 : BitVec 32 := Scalar.addi v43 c0_i32_35
  let v45 : Index := Scalar.indexCast v44
  let c0_36 : Index := 0#32
  ![v45.toNat, 0]
def k0_dev4 (d0 : Dev nD) : Nat :=
  let c0_i32_49 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_48 : BitVec 32 := 1#32
  let v54 : BitVec 32 := Scalar.muli v4 c1_i32_48
  let v55 : BitVec 32 := Scalar.addi c0_i32_49 v54
  v55.toNat
def k0_dev5 (d0 : Dev nD) : Nat :=
  let c0_i32_70 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_69 : BitVec 32 := 1#32
  let v77 : BitVec 32 := Scalar.muli v6 c1_i32_69
  let v78 : BitVec 32 := Scalar.addi c0_i32_70 v77
  v78.toNat
def k0_dev6 (d0 : Dev nD) : Nat :=
  let c0_i32_94 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_93 : BitVec 32 := 1#32
  let v101 : BitVec 32 := Scalar.muli v4 c1_i32_93
  let v102 : BitVec 32 := Scalar.addi c0_i32_94 v101
  v102.toNat
def k0_dev7 (d0 : Dev nD) : Nat :=
  let c0_i32_115 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_114 : BitVec 32 := 1#32
  let v124 : BitVec 32 := Scalar.muli v6 c1_i32_114
  let v125 : BitVec 32 := Scalar.addi c0_i32_115 v124
  v125.toNat
def k0_dev8 (d0 : Dev nD) : Nat :=
  let c0_i32_139 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_138 : BitVec 32 := 1#32
  let v148 : BitVec 32 := Scalar.muli v4 c1_i32_138
  let v149 : BitVec 32 := Scalar.addi c0_i32_139 v148
  v149.toNat
def k0_dev9 (d0 : Dev nD) : Nat :=
  let c0_i32_160 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_159 : BitVec 32 := 1#32
  let v171 : BitVec 32 := Scalar.muli v6 c1_i32_159
  let v172 : BitVec 32 := Scalar.addi c0_i32_160 v171
  v172.toNat
def k0_dev10 (d0 : Dev nD) : Nat :=
  let c0_i32_184 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_183 : BitVec 32 := 1#32
  let v195 : BitVec 32 := Scalar.muli v4 c1_i32_183
  let v196 : BitVec 32 := Scalar.addi c0_i32_184 v195
  v196.toNat
def k0_dev11 (d0 : Dev nD) : Nat :=
  let c0_i32_205 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_204 : BitVec 32 := 1#32
  let v218 : BitVec 32 := Scalar.muli v6 c1_i32_204
  let v219 : BitVec 32 := Scalar.addi c0_i32_205 v218
  v219.toNat
def k0_dev12 (d0 : Dev nD) : Nat :=
  let c0_i32_229 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_228 : BitVec 32 := 1#32
  let v242 : BitVec 32 := Scalar.muli v4 c1_i32_228
  let v243 : BitVec 32 := Scalar.addi c0_i32_229 v242
  v243.toNat
def k0_dev13 (d0 : Dev nD) : Nat :=
  let c0_i32_249 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_248 : BitVec 32 := 1#32
  let v265 : BitVec 32 := Scalar.muli v6 c1_i32_248
  let v266 : BitVec 32 := Scalar.addi c0_i32_249 v265
  v266.toNat
def k0_dev14 (d0 : Dev nD) : Nat :=
  let c0_i32_273 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_272 : BitVec 32 := 1#32
  let v289 : BitVec 32 := Scalar.muli v4 c1_i32_272
  let v290 : BitVec 32 := Scalar.addi c0_i32_273 v289
  v290.toNat
def k0_dev15 (d0 : Dev nD) : Nat :=
  let c0_i32_293 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_292 : BitVec 32 := 1#32
  let v312 : BitVec 32 := Scalar.muli v6 c1_i32_292
  let v313 : BitVec 32 := Scalar.addi c0_i32_293 v312
  v313.toNat
def k0_dev16 (d0 : Dev nD) : Nat :=
  let c0_i32_317 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_316 : BitVec 32 := 1#32
  let v336 : BitVec 32 := Scalar.muli v4 c1_i32_316
  let v337 : BitVec 32 := Scalar.addi c0_i32_317 v336
  v337.toNat
def k0_dev17 (d0 : Dev nD) : Nat :=
  let c0_i32_338 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_337 : BitVec 32 := 1#32
  let v359 : BitVec 32 := Scalar.muli v6 c1_i32_337
  let v360 : BitVec 32 := Scalar.addi c0_i32_338 v359
  v360.toNat
def k0_dev18 (d0 : Dev nD) : Nat :=
  let c0_i32_362 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_361 : BitVec 32 := 1#32
  let v383 : BitVec 32 := Scalar.muli v4 c1_i32_361
  let v384 : BitVec 32 := Scalar.addi c0_i32_362 v383
  v384.toNat
def k0_off3 (d0 : Dev nD) (c6_i32_367 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v393 : BitVec 32 := Scalar.addi v2 c6_i32_367
  let c4_i32_368 : BitVec 32 := 4#32
  let v394 : BitVec 32 := Scalar.remsi v393 c4_i32_368
  let c1024_i32_369 : BitVec 32 := 1024#32
  let v395 : BitVec 32 := Scalar.muli v394 c1024_i32_369
  let v396 : Index := Scalar.indexCast v395
  let c0_370 : Index := 0#32
  ![v396.toNat, 0]
def k0_off4 (d0 : Dev nD) (c1_i32_375 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_374 : BitVec 32 := 1#32
  let v401 : BitVec 32 := Scalar.addi v2 c1_i32_374
  let v402 : BitVec 32 := Scalar.addi v401 c1_i32_375
  let c4_i32_376 : BitVec 32 := 4#32
  let v403 : BitVec 32 := Scalar.remsi v402 c4_i32_376
  let c1024_i32_377 : BitVec 32 := 1024#32
  let v404 : BitVec 32 := Scalar.muli v403 c1024_i32_377
  let v405 : Index := Scalar.indexCast v404
  let c0_378 : Index := 0#32
  ![v405.toNat, 0]
def k0_dev19 (d0 : Dev nD) : Nat :=
  let c0_i32_417 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_416 : BitVec 32 := 1#32
  let v433 : BitVec 32 := Scalar.muli v6 c1_i32_416
  let v434 : BitVec 32 := Scalar.addi c0_i32_417 v433
  v434.toNat
def k0_dev20 (d0 : Dev nD) : Nat :=
  let c0_i32_458 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_457 : BitVec 32 := 1#32
  let v466 : BitVec 32 := Scalar.muli v4 c1_i32_457
  let v467 : BitVec 32 := Scalar.addi c0_i32_458 v466
  v467.toNat
def k0_dev21 (d0 : Dev nD) : Nat :=
  let c0_i32_499 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_498 : BitVec 32 := 1#32
  let v499 : BitVec 32 := Scalar.muli v6 c1_i32_498
  let v500 : BitVec 32 := Scalar.addi c0_i32_499 v499
  v500.toNat
def k0_dev22 (d0 : Dev nD) : Nat :=
  let c0_i32_540 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_539 : BitVec 32 := 1#32
  let v532 : BitVec 32 := Scalar.muli v4 c1_i32_539
  let v533 : BitVec 32 := Scalar.addi c0_i32_540 v532
  v533.toNat
def k0_dev23 (d0 : Dev nD) : Nat :=
  let c0_i32_581 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_580 : BitVec 32 := 1#32
  let v565 : BitVec 32 := Scalar.muli v6 c1_i32_580
  let v566 : BitVec 32 := Scalar.addi c0_i32_581 v565
  v566.toNat
def k0_dev24 (d0 : Dev nD) : Nat :=
  let c0_i32_622 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_621 : BitVec 32 := 1#32
  let v598 : BitVec 32 := Scalar.muli v4 c1_i32_621
  let v599 : BitVec 32 := Scalar.addi c0_i32_622 v598
  v599.toNat
def k0_dev25 (d0 : Dev nD) : Nat :=
  let c0_i32_663 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_662 : BitVec 32 := 1#32
  let v631 : BitVec 32 := Scalar.muli v6 c1_i32_662
  let v632 : BitVec 32 := Scalar.addi c0_i32_663 v631
  v632.toNat
def k0_dev26 (d0 : Dev nD) : Nat :=
  let c0_i32_704 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_703 : BitVec 32 := 1#32
  let v664 : BitVec 32 := Scalar.muli v4 c1_i32_703
  let v665 : BitVec 32 := Scalar.addi c0_i32_704 v664
  v665.toNat
def k0_dev27 (d0 : Dev nD) : Nat :=
  let c0_i32_745 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_744 : BitVec 32 := 1#32
  let v697 : BitVec 32 := Scalar.muli v6 c1_i32_744
  let v698 : BitVec 32 := Scalar.addi c0_i32_745 v697
  v698.toNat
def k0_dev28 (d0 : Dev nD) : Nat :=
  let c0_i32_786 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_785 : BitVec 32 := 1#32
  let v730 : BitVec 32 := Scalar.muli v4 c1_i32_785
  let v731 : BitVec 32 := Scalar.addi c0_i32_786 v730
  v731.toNat
def k0_dev29 (d0 : Dev nD) : Nat :=
  let c0_i32_827 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_826 : BitVec 32 := 1#32
  let v763 : BitVec 32 := Scalar.muli v6 c1_i32_826
  let v764 : BitVec 32 := Scalar.addi c0_i32_827 v763
  v764.toNat
def k0_dev30 (d0 : Dev nD) : Nat :=
  let c0_i32_868 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_867 : BitVec 32 := 1#32
  let v796 : BitVec 32 := Scalar.muli v4 c1_i32_867
  let v797 : BitVec 32 := Scalar.addi c0_i32_868 v796
  v797.toNat
def k0_dev31 (d0 : Dev nD) : Nat :=
  let c0_i32_909 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_908 : BitVec 32 := 1#32
  let v829 : BitVec 32 := Scalar.muli v6 c1_i32_908
  let v830 : BitVec 32 := Scalar.addi c0_i32_909 v829
  v830.toNat
def k0_dev32 (d0 : Dev nD) : Nat :=
  let c0_i32_950 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_949 : BitVec 32 := 1#32
  let v862 : BitVec 32 := Scalar.muli v4 c1_i32_949
  let v863 : BitVec 32 := Scalar.addi c0_i32_950 v862
  v863.toNat
def k0_dev33 (d0 : Dev nD) : Nat :=
  let c0_i32_991 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_990 : BitVec 32 := 1#32
  let v895 : BitVec 32 := Scalar.muli v6 c1_i32_990
  let v896 : BitVec 32 := Scalar.addi c0_i32_991 v895
  v896.toNat
def k0_dev34 (d0 : Dev nD) : Nat :=
  let c0_i32_1032 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_1031 : BitVec 32 := 1#32
  let v928 : BitVec 32 := Scalar.muli v4 c1_i32_1031
  let v929 : BitVec 32 := Scalar.addi c0_i32_1032 v928
  v929.toNat
def k0_dev35 (d0 : Dev nD) : Nat :=
  let c0_i32_1087 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_1086 : BitVec 32 := 1#32
  let v978 : BitVec 32 := Scalar.muli v6 c1_i32_1086
  let v979 : BitVec 32 := Scalar.addi c0_i32_1087 v978
  v979.toNat
def k0_dev36 (d0 : Dev nD) : Nat :=
  let c0_i32_1128 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_1127 : BitVec 32 := 1#32
  let v1011 : BitVec 32 := Scalar.muli v4 c1_i32_1127
  let v1012 : BitVec 32 := Scalar.addi c0_i32_1128 v1011
  v1012.toNat
def k0_dev37 (d0 : Dev nD) : Nat :=
  let c0_i32_1169 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_1168 : BitVec 32 := 1#32
  let v1044 : BitVec 32 := Scalar.muli v6 c1_i32_1168
  let v1045 : BitVec 32 := Scalar.addi c0_i32_1169 v1044
  v1045.toNat
def k0_dev38 (d0 : Dev nD) : Nat :=
  let c0_i32_1210 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_1209 : BitVec 32 := 1#32
  let v1077 : BitVec 32 := Scalar.muli v4 c1_i32_1209
  let v1078 : BitVec 32 := Scalar.addi c0_i32_1210 v1077
  v1078.toNat
def k0_dev39 (d0 : Dev nD) : Nat :=
  let c0_i32_1251 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_1250 : BitVec 32 := 1#32
  let v1110 : BitVec 32 := Scalar.muli v6 c1_i32_1250
  let v1111 : BitVec 32 := Scalar.addi c0_i32_1251 v1110
  v1111.toNat
def k0_dev40 (d0 : Dev nD) : Nat :=
  let c0_i32_1292 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_1291 : BitVec 32 := 1#32
  let v1143 : BitVec 32 := Scalar.muli v4 c1_i32_1291
  let v1144 : BitVec 32 := Scalar.addi c0_i32_1292 v1143
  v1144.toNat
def k0_dev41 (d0 : Dev nD) : Nat :=
  let c0_i32_1333 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_1332 : BitVec 32 := 1#32
  let v1176 : BitVec 32 := Scalar.muli v6 c1_i32_1332
  let v1177 : BitVec 32 := Scalar.addi c0_i32_1333 v1176
  v1177.toNat
def k0_dev42 (d0 : Dev nD) : Nat :=
  let c0_i32_1374 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_1373 : BitVec 32 := 1#32
  let v1209 : BitVec 32 := Scalar.muli v4 c1_i32_1373
  let v1210 : BitVec 32 := Scalar.addi c0_i32_1374 v1209
  v1210.toNat
def k0_dev43 (d0 : Dev nD) : Nat :=
  let c0_i32_1415 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_1414 : BitVec 32 := 1#32
  let v1242 : BitVec 32 := Scalar.muli v6 c1_i32_1414
  let v1243 : BitVec 32 := Scalar.addi c0_i32_1415 v1242
  v1243.toNat
def k0_dev44 (d0 : Dev nD) : Nat :=
  let c0_i32_1456 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_1455 : BitVec 32 := 1#32
  let v1275 : BitVec 32 := Scalar.muli v4 c1_i32_1455
  let v1276 : BitVec 32 := Scalar.addi c0_i32_1456 v1275
  v1276.toNat
def k0_dev45 (d0 : Dev nD) : Nat :=
  let c0_i32_1497 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_1496 : BitVec 32 := 1#32
  let v1308 : BitVec 32 := Scalar.muli v6 c1_i32_1496
  let v1309 : BitVec 32 := Scalar.addi c0_i32_1497 v1308
  v1309.toNat
def k0_dev46 (d0 : Dev nD) : Nat :=
  let c0_i32_1538 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_1537 : BitVec 32 := 1#32
  let v1341 : BitVec 32 := Scalar.muli v4 c1_i32_1537
  let v1342 : BitVec 32 := Scalar.addi c0_i32_1538 v1341
  v1342.toNat
def k0_dev47 (d0 : Dev nD) : Nat :=
  let c0_i32_1579 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_1578 : BitVec 32 := 1#32
  let v1374 : BitVec 32 := Scalar.muli v6 c1_i32_1578
  let v1375 : BitVec 32 := Scalar.addi c0_i32_1579 v1374
  v1375.toNat
def k0_dev48 (d0 : Dev nD) : Nat :=
  let c0_i32_1620 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_1619 : BitVec 32 := 1#32
  let v1407 : BitVec 32 := Scalar.muli v4 c1_i32_1619
  let v1408 : BitVec 32 := Scalar.addi c0_i32_1620 v1407
  v1408.toNat
def k0_dev49 (d0 : Dev nD) : Nat :=
  let c0_i32_1661 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_1660 : BitVec 32 := 1#32
  let v1440 : BitVec 32 := Scalar.muli v6 c1_i32_1660
  let v1441 : BitVec 32 := Scalar.addi c0_i32_1661 v1440
  v1441.toNat
def k0_dev50 (d0 : Dev nD) : Nat :=
  let c0_i32_1702 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_1701 : BitVec 32 := 1#32
  let v1473 : BitVec 32 := Scalar.muli v4 c1_i32_1701
  let v1474 : BitVec 32 := Scalar.addi c0_i32_1702 v1473
  v1474.toNat
def k0_off5 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_1707 : BitVec 32 := 1024#32
  let v1483 : BitVec 32 := Scalar.muli v2 c1024_i32_1707
  let v1484 : Index := Scalar.indexCast v1483
  let c0_1708 : Index := 0#32
  ![v1484.toNat, 0]
def k0_dev51 (d0 : Dev nD) : Nat :=
  let c0_i32_1755 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_1754 : BitVec 32 := 1#32
  let v1526 : BitVec 32 := Scalar.muli v6 c1_i32_1754
  let v1527 : BitVec 32 := Scalar.addi c0_i32_1755 v1526
  v1527.toNat
def k0_dev52 (d0 : Dev nD) : Nat :=
  let c0_i32_1799 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_1798 : BitVec 32 := 1#32
  let v1567 : BitVec 32 := Scalar.muli v4 c1_i32_1798
  let v1568 : BitVec 32 := Scalar.addi c0_i32_1799 v1567
  v1568.toNat
def k0_dev53 (d0 : Dev nD) : Nat :=
  let c0_i32_1843 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_1842 : BitVec 32 := 1#32
  let v1608 : BitVec 32 := Scalar.muli v6 c1_i32_1842
  let v1609 : BitVec 32 := Scalar.addi c0_i32_1843 v1608
  v1609.toNat
def k0_dev54 (d0 : Dev nD) : Nat :=
  let c0_i32_1887 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_1886 : BitVec 32 := 1#32
  let v1649 : BitVec 32 := Scalar.muli v4 c1_i32_1886
  let v1650 : BitVec 32 := Scalar.addi c0_i32_1887 v1649
  v1650.toNat
def k0_dev55 (d0 : Dev nD) : Nat :=
  let c0_i32_1931 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_1930 : BitVec 32 := 1#32
  let v1690 : BitVec 32 := Scalar.muli v6 c1_i32_1930
  let v1691 : BitVec 32 := Scalar.addi c0_i32_1931 v1690
  v1691.toNat
def k0_dev56 (d0 : Dev nD) : Nat :=
  let c0_i32_1975 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_1974 : BitVec 32 := 1#32
  let v1731 : BitVec 32 := Scalar.muli v4 c1_i32_1974
  let v1732 : BitVec 32 := Scalar.addi c0_i32_1975 v1731
  v1732.toNat
def k0_dev57 (d0 : Dev nD) : Nat :=
  let c0_i32_2019 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_2018 : BitVec 32 := 1#32
  let v1772 : BitVec 32 := Scalar.muli v6 c1_i32_2018
  let v1773 : BitVec 32 := Scalar.addi c0_i32_2019 v1772
  v1773.toNat
def k0_dev58 (d0 : Dev nD) : Nat :=
  let c0_i32_2063 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_2062 : BitVec 32 := 1#32
  let v1813 : BitVec 32 := Scalar.muli v4 c1_i32_2062
  let v1814 : BitVec 32 := Scalar.addi c0_i32_2063 v1813
  v1814.toNat
def k0_dev59 (d0 : Dev nD) : Nat :=
  let c0_i32_2107 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_2106 : BitVec 32 := 1#32
  let v1854 : BitVec 32 := Scalar.muli v6 c1_i32_2106
  let v1855 : BitVec 32 := Scalar.addi c0_i32_2107 v1854
  v1855.toNat
def k0_dev60 (d0 : Dev nD) : Nat :=
  let c0_i32_2151 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_2150 : BitVec 32 := 1#32
  let v1895 : BitVec 32 := Scalar.muli v4 c1_i32_2150
  let v1896 : BitVec 32 := Scalar.addi c0_i32_2151 v1895
  v1896.toNat
def k0_dev61 (d0 : Dev nD) : Nat :=
  let c0_i32_2195 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_2194 : BitVec 32 := 1#32
  let v1936 : BitVec 32 := Scalar.muli v6 c1_i32_2194
  let v1937 : BitVec 32 := Scalar.addi c0_i32_2195 v1936
  v1937.toNat
def k0_dev62 (d0 : Dev nD) : Nat :=
  let c0_i32_2239 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_2238 : BitVec 32 := 1#32
  let v1977 : BitVec 32 := Scalar.muli v4 c1_i32_2238
  let v1978 : BitVec 32 := Scalar.addi c0_i32_2239 v1977
  v1978.toNat
def k0_dev63 (d0 : Dev nD) : Nat :=
  let c0_i32_2283 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_2282 : BitVec 32 := 1#32
  let v2018 : BitVec 32 := Scalar.muli v6 c1_i32_2282
  let v2019 : BitVec 32 := Scalar.addi c0_i32_2283 v2018
  v2019.toNat
def k0_dev64 (d0 : Dev nD) : Nat :=
  let c0_i32_2327 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_2326 : BitVec 32 := 1#32
  let v2059 : BitVec 32 := Scalar.muli v4 c1_i32_2326
  let v2060 : BitVec 32 := Scalar.addi c0_i32_2327 v2059
  v2060.toNat
def k0_dev65 (d0 : Dev nD) : Nat :=
  let c0_i32_2371 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_2370 : BitVec 32 := 1#32
  let v2100 : BitVec 32 := Scalar.muli v6 c1_i32_2370
  let v2101 : BitVec 32 := Scalar.addi c0_i32_2371 v2100
  v2101.toNat
def k0_dev66 (d0 : Dev nD) : Nat :=
  let c0_i32_2415 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_2414 : BitVec 32 := 1#32
  let v2141 : BitVec 32 := Scalar.muli v4 c1_i32_2414
  let v2142 : BitVec 32 := Scalar.addi c0_i32_2415 v2141
  v2142.toNat
def k0_off6 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_2420 : BitVec 32 := 1024#32
  let v2151 : BitVec 32 := Scalar.muli v2 c1024_i32_2420
  let c0_i32_2423 : BitVec 32 := 0#32
  ![v2151.toNat, 0]
def k0_off7 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_2426 : BitVec 32 := 1024#32
  let v2157 : BitVec 32 := Scalar.muli v2 c1024_i32_2426
  let c1024_i32_2429 : BitVec 32 := 1024#32
  ![v2157.toNat, 1024]
def k0_dev67 (d0 : Dev nD) : Nat :=
  let c0_i32_2462 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_2461 : BitVec 32 := 1#32
  let v2177 : BitVec 32 := Scalar.muli v6 c1_i32_2461
  let v2178 : BitVec 32 := Scalar.addi c0_i32_2462 v2177
  v2178.toNat
def k0_dev68 (d0 : Dev nD) : Nat :=
  let c0_i32_2497 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_2496 : BitVec 32 := 1#32
  let v2201 : BitVec 32 := Scalar.muli v4 c1_i32_2496
  let v2202 : BitVec 32 := Scalar.addi c0_i32_2497 v2201
  v2202.toNat
def k0_dev69 (d0 : Dev nD) : Nat :=
  let c0_i32_2532 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_2531 : BitVec 32 := 1#32
  let v2225 : BitVec 32 := Scalar.muli v6 c1_i32_2531
  let v2226 : BitVec 32 := Scalar.addi c0_i32_2532 v2225
  v2226.toNat
def k0_dev70 (d0 : Dev nD) : Nat :=
  let c0_i32_2567 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_2566 : BitVec 32 := 1#32
  let v2249 : BitVec 32 := Scalar.muli v4 c1_i32_2566
  let v2250 : BitVec 32 := Scalar.addi c0_i32_2567 v2249
  v2250.toNat
def k0_dev71 (d0 : Dev nD) : Nat :=
  let c0_i32_2602 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_2601 : BitVec 32 := 1#32
  let v2273 : BitVec 32 := Scalar.muli v6 c1_i32_2601
  let v2274 : BitVec 32 := Scalar.addi c0_i32_2602 v2273
  v2274.toNat
def k0_dev72 (d0 : Dev nD) : Nat :=
  let c0_i32_2637 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_2636 : BitVec 32 := 1#32
  let v2297 : BitVec 32 := Scalar.muli v4 c1_i32_2636
  let v2298 : BitVec 32 := Scalar.addi c0_i32_2637 v2297
  v2298.toNat
def k0_dev73 (d0 : Dev nD) : Nat :=
  let c0_i32_2672 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_2671 : BitVec 32 := 1#32
  let v2321 : BitVec 32 := Scalar.muli v6 c1_i32_2671
  let v2322 : BitVec 32 := Scalar.addi c0_i32_2672 v2321
  v2322.toNat
def k0_dev74 (d0 : Dev nD) : Nat :=
  let c0_i32_2707 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_2706 : BitVec 32 := 1#32
  let v2345 : BitVec 32 := Scalar.muli v4 c1_i32_2706
  let v2346 : BitVec 32 := Scalar.addi c0_i32_2707 v2345
  v2346.toNat
def k0_dev75 (d0 : Dev nD) : Nat :=
  let c0_i32_2742 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_2741 : BitVec 32 := 1#32
  let v2369 : BitVec 32 := Scalar.muli v6 c1_i32_2741
  let v2370 : BitVec 32 := Scalar.addi c0_i32_2742 v2369
  v2370.toNat
def k0_dev76 (d0 : Dev nD) : Nat :=
  let c0_i32_2777 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_2776 : BitVec 32 := 1#32
  let v2393 : BitVec 32 := Scalar.muli v4 c1_i32_2776
  let v2394 : BitVec 32 := Scalar.addi c0_i32_2777 v2393
  v2394.toNat
def k0_dev77 (d0 : Dev nD) : Nat :=
  let c0_i32_2812 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_2811 : BitVec 32 := 1#32
  let v2417 : BitVec 32 := Scalar.muli v6 c1_i32_2811
  let v2418 : BitVec 32 := Scalar.addi c0_i32_2812 v2417
  v2418.toNat
def k0_dev78 (d0 : Dev nD) : Nat :=
  let c0_i32_2847 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_2846 : BitVec 32 := 1#32
  let v2441 : BitVec 32 := Scalar.muli v4 c1_i32_2846
  let v2442 : BitVec 32 := Scalar.addi c0_i32_2847 v2441
  v2442.toNat
def k0_dev79 (d0 : Dev nD) : Nat :=
  let c0_i32_2882 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_2881 : BitVec 32 := 1#32
  let v2465 : BitVec 32 := Scalar.muli v6 c1_i32_2881
  let v2466 : BitVec 32 := Scalar.addi c0_i32_2882 v2465
  v2466.toNat
def k0_dev80 (d0 : Dev nD) : Nat :=
  let c0_i32_2917 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_2916 : BitVec 32 := 1#32
  let v2489 : BitVec 32 := Scalar.muli v4 c1_i32_2916
  let v2490 : BitVec 32 := Scalar.addi c0_i32_2917 v2489
  v2490.toNat
def k0_dev81 (d0 : Dev nD) : Nat :=
  let c0_i32_2952 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_2951 : BitVec 32 := 1#32
  let v2513 : BitVec 32 := Scalar.muli v6 c1_i32_2951
  let v2514 : BitVec 32 := Scalar.addi c0_i32_2952 v2513
  v2514.toNat
def k0_dev82 (d0 : Dev nD) : Nat :=
  let c0_i32_2987 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_2986 : BitVec 32 := 1#32
  let v2537 : BitVec 32 := Scalar.muli v4 c1_i32_2986
  let v2538 : BitVec 32 := Scalar.addi c0_i32_2987 v2537
  v2538.toNat
def k0_off8 (d0 : Dev nD) (c7_i32_3002 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v2557 : BitVec 32 := Scalar.addi v2 c7_i32_3002
  let c4_i32_3003 : BitVec 32 := 4#32
  let v2558 : BitVec 32 := Scalar.remsi v2557 c4_i32_3003
  let c1024_i32_3004 : BitVec 32 := 1024#32
  let v2559 : BitVec 32 := Scalar.muli v2558 c1024_i32_3004
  let c0_i32_3007 : BitVec 32 := 0#32
  ![v2559.toNat, 0]
def k0_off9 (d0 : Dev nD) (c0_i32_3011 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3010 : BitVec 32 := 1#32
  let v2565 : BitVec 32 := Scalar.addi v2 c1_i32_3010
  let v2566 : BitVec 32 := Scalar.addi v2565 c0_i32_3011
  let c4_i32_3012 : BitVec 32 := 4#32
  let v2567 : BitVec 32 := Scalar.remsi v2566 c4_i32_3012
  let c1024_i32_3013 : BitVec 32 := 1024#32
  let v2568 : BitVec 32 := Scalar.muli v2567 c1024_i32_3013
  let c1024_i32_3016 : BitVec 32 := 1024#32
  ![v2568.toNat, 1024]
def k0_dev83 (d0 : Dev nD) : Nat :=
  let c0_i32_3049 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_3048 : BitVec 32 := 1#32
  let v2588 : BitVec 32 := Scalar.muli v6 c1_i32_3048
  let v2589 : BitVec 32 := Scalar.addi c0_i32_3049 v2588
  v2589.toNat
def k0_dev84 (d0 : Dev nD) : Nat :=
  let c0_i32_3084 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_3083 : BitVec 32 := 1#32
  let v2612 : BitVec 32 := Scalar.muli v4 c1_i32_3083
  let v2613 : BitVec 32 := Scalar.addi c0_i32_3084 v2612
  v2613.toNat
def k0_dev85 (d0 : Dev nD) : Nat :=
  let c0_i32_3119 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_3118 : BitVec 32 := 1#32
  let v2636 : BitVec 32 := Scalar.muli v6 c1_i32_3118
  let v2637 : BitVec 32 := Scalar.addi c0_i32_3119 v2636
  v2637.toNat
def k0_dev86 (d0 : Dev nD) : Nat :=
  let c0_i32_3154 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_3153 : BitVec 32 := 1#32
  let v2660 : BitVec 32 := Scalar.muli v4 c1_i32_3153
  let v2661 : BitVec 32 := Scalar.addi c0_i32_3154 v2660
  v2661.toNat
def k0_dev87 (d0 : Dev nD) : Nat :=
  let c0_i32_3189 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_3188 : BitVec 32 := 1#32
  let v2684 : BitVec 32 := Scalar.muli v6 c1_i32_3188
  let v2685 : BitVec 32 := Scalar.addi c0_i32_3189 v2684
  v2685.toNat
def k0_dev88 (d0 : Dev nD) : Nat :=
  let c0_i32_3224 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_3223 : BitVec 32 := 1#32
  let v2708 : BitVec 32 := Scalar.muli v4 c1_i32_3223
  let v2709 : BitVec 32 := Scalar.addi c0_i32_3224 v2708
  v2709.toNat
def k0_dev89 (d0 : Dev nD) : Nat :=
  let c0_i32_3259 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_3258 : BitVec 32 := 1#32
  let v2732 : BitVec 32 := Scalar.muli v6 c1_i32_3258
  let v2733 : BitVec 32 := Scalar.addi c0_i32_3259 v2732
  v2733.toNat
def k0_dev90 (d0 : Dev nD) : Nat :=
  let c0_i32_3294 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_3293 : BitVec 32 := 1#32
  let v2756 : BitVec 32 := Scalar.muli v4 c1_i32_3293
  let v2757 : BitVec 32 := Scalar.addi c0_i32_3294 v2756
  v2757.toNat
def k0_dev91 (d0 : Dev nD) : Nat :=
  let c0_i32_3329 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_3328 : BitVec 32 := 1#32
  let v2780 : BitVec 32 := Scalar.muli v6 c1_i32_3328
  let v2781 : BitVec 32 := Scalar.addi c0_i32_3329 v2780
  v2781.toNat
def k0_dev92 (d0 : Dev nD) : Nat :=
  let c0_i32_3364 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_3363 : BitVec 32 := 1#32
  let v2804 : BitVec 32 := Scalar.muli v4 c1_i32_3363
  let v2805 : BitVec 32 := Scalar.addi c0_i32_3364 v2804
  v2805.toNat
def k0_dev93 (d0 : Dev nD) : Nat :=
  let c0_i32_3399 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_3398 : BitVec 32 := 1#32
  let v2828 : BitVec 32 := Scalar.muli v6 c1_i32_3398
  let v2829 : BitVec 32 := Scalar.addi c0_i32_3399 v2828
  v2829.toNat
def k0_dev94 (d0 : Dev nD) : Nat :=
  let c0_i32_3434 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_3433 : BitVec 32 := 1#32
  let v2852 : BitVec 32 := Scalar.muli v4 c1_i32_3433
  let v2853 : BitVec 32 := Scalar.addi c0_i32_3434 v2852
  v2853.toNat
def k0_dev95 (d0 : Dev nD) : Nat :=
  let c0_i32_3469 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_3468 : BitVec 32 := 1#32
  let v2876 : BitVec 32 := Scalar.muli v6 c1_i32_3468
  let v2877 : BitVec 32 := Scalar.addi c0_i32_3469 v2876
  v2877.toNat
def k0_dev96 (d0 : Dev nD) : Nat :=
  let c0_i32_3504 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_3503 : BitVec 32 := 1#32
  let v2900 : BitVec 32 := Scalar.muli v4 c1_i32_3503
  let v2901 : BitVec 32 := Scalar.addi c0_i32_3504 v2900
  v2901.toNat
def k0_dev97 (d0 : Dev nD) : Nat :=
  let c0_i32_3539 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_3538 : BitVec 32 := 1#32
  let v2924 : BitVec 32 := Scalar.muli v6 c1_i32_3538
  let v2925 : BitVec 32 := Scalar.addi c0_i32_3539 v2924
  v2925.toNat
def k0_dev98 (d0 : Dev nD) : Nat :=
  let c0_i32_3574 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_3573 : BitVec 32 := 1#32
  let v2948 : BitVec 32 := Scalar.muli v4 c1_i32_3573
  let v2949 : BitVec 32 := Scalar.addi c0_i32_3574 v2948
  v2949.toNat
def k0_off10 (d0 : Dev nD) (c0_i32_3642 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c5_i32_3639 : BitVec 32 := 5#32
  let v3009 : BitVec 32 := Scalar.addi v2 c5_i32_3639
  let c4_i32_3640 : BitVec 32 := 4#32
  let v3010 : BitVec 32 := Scalar.remsi v3009 c4_i32_3640
  let c1024_i32_3641 : BitVec 32 := 1024#32
  let v3011 : BitVec 32 := Scalar.muli v3010 c1024_i32_3641
  let v3012 : BitVec 32 := Scalar.addi v3011 c0_i32_3642
  let c0_i32_3645 : BitVec 32 := 0#32
  ![v3012.toNat, 0]
def k0_off11 (d0 : Dev nD) (c0_i32_3675 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3671 : BitVec 32 := 1#32
  let v3032 : BitVec 32 := Scalar.addi v2 c1_i32_3671
  let c2_i32_3672 : BitVec 32 := 2#32
  let v3033 : BitVec 32 := Scalar.addi v3032 c2_i32_3672
  let c4_i32_3673 : BitVec 32 := 4#32
  let v3034 : BitVec 32 := Scalar.remsi v3033 c4_i32_3673
  let c1024_i32_3674 : BitVec 32 := 1024#32
  let v3035 : BitVec 32 := Scalar.muli v3034 c1024_i32_3674
  let v3036 : BitVec 32 := Scalar.addi v3035 c0_i32_3675
  let c1024_i32_3678 : BitVec 32 := 1024#32
  ![v3036.toNat, 1024]
abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S4096x4096, .f32⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S4096x2048, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== ClippedReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S4096x4096, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S4096x2048, .f32⟩
  | .hbm, ⟨9, _⟩ => ⟨S4096x2048, .f32⟩
  | .hbm, ⟨10, _⟩ => ⟨S_, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S4096x2048, .f32⟩
  | .hbm, ⟨15, _⟩ => ⟨S_, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S4096x2048, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_cst_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩

abbrev nD : Nat := 1
abbrev τ : Topo := Topo.v7x

variable {F : FTy → Type} [FloatOps F]
-- ==== Proof.Prog.lean ====
/-
# The kernel body as nested loops

The printed body is one long straight line of memory operations: `d` (which way round the ring), `h` (the hop) and
`b` (the row block) are unrolled. Here the same operations are written once each, over `d`, `h` and `b`, and put
together by loops over literal lists; `body_eq` says that this is the printed body.
-/
module

public import proofs.«01_k».proof.Proof.Gen.KernelIdeal
public import proofs.«01_k».proof.Proof.Gen.KernelIdeal.Skeleton
public import proofs.«01_k».proof.Proof.Gen.KernelIdeal.Points

@[expose] public section

noncomputable section

namespace Cert.RingProof

open Cert.KernelIdeal Cert.KernelIdeal.Gen
open Idealize.ShloMosaic Idealize.ShloMosaic.TcCoe Idealize.SL.Sem

variable {F : FTy → Type} [FloatOps F]

/-! ## Buffers, blocks, semaphores

`d = false` is the stream sent to the right neighbour (columns 0–1023), `d = true` the one sent to the left. -/

abbrev xM : Memref sig .tc .vmem S4096x1024 .bf16 := Memref.whole cc0_stg0_0
abbrev wM : Memref sig .tc .vmem S1024x2048 .bf16 := Memref.whole cc0_stg1_0
abbrev oM : Memref sig .tc .hbm S4096x2048 .bf16 := Memref.whole main_v1
abbrev w16M : Memref sig .tc .vmem S1024x2048 .bf16 := Memref.whole cc0_scratch0

/-- The communication buffer of stream `d`. -/
def cR (d : Bool) : Ref sig .tc := match d with | false => cc0_scratch1 | true => cc0_scratch2
def cM (d : Bool) : Memref sig .tc .vmem S7x1024x1024 .bf16 := match d with | false => Memref.whole cc0_scratch1 | true => Memref.whole cc0_scratch2
theorem cM_whole (d : Bool) : (cM d).IsWhole := by cases d <;> exact Memref.isWhole_whole _

/-- Rows `128 b …` of slot `s`. -/
abbrev boff (s : Fin 7) (b : Fin 8) : Fin 3 → Nat := ![s.val, 128 * b.val, 0]
theorem boff_inb (s : Fin 7) (b : Fin 8) : ∀ a, boff s b a + S1x128x1024.size a ≤ S7x1024x1024.size a := by
  revert s b; decide
theorem boff_words (s : Fin 7) (b : Fin 8) : (Rect.unit (s := S7x1024x1024) (boff s b) S1x128x1024.size (boff_inb s b)).WholeWords (EltTy.packing .bf16) := by
  revert s b; decide +kernel
theorem boff_packed (s : Fin 7) (b : Fin 8) : (Rect.unit (s := S7x1024x1024) (boff s b) S1x128x1024.size (boff_inb s b)).PackedRows (EltTy.packing .bf16) := by
  revert s b; decide +kernel
abbrev bR (s : Fin 7) (b : Fin 8) : Rect S7x1024x1024 := Rect.unit (s := S7x1024x1024) (boff s b) S1x128x1024.size (boff_inb s b)

/-- The block as a memref of its own. -/
def sub (d : Bool) (s : Fin 7) (b : Fin 8) : Memref sig .tc .vmem S128x1024 .bf16 :=
  ((cM d).slice (bR s b) (fun _ => rfl)).squeeze S128x1024 squeezes_S1x128x1024_S128x1024
theorem sub_word (d : Bool) (s : Fin 7) (b : Fin 8) : (sub d s b).view.WordExact :=
  ((cM_whole d).wordExact_slice rfl _ (boff_words s b)).reshape _ _

/-- A whole slot. -/
abbrev soff (s : Fin 7) : Fin 3 → Nat := ![s.val, 0, 0]
theorem soff_inb (s : Fin 7) : ∀ a, soff s a + S1x1024x1024.size a ≤ S7x1024x1024.size a := by revert s; decide
theorem soff_words (s : Fin 7) : (Rect.unit (s := S7x1024x1024) (soff s) S1x1024x1024.size (soff_inb s)).WholeWords (EltTy.packing .bf16) := by
  revert s; decide +kernel
abbrev sR (s : Fin 7) : Rect S7x1024x1024 := Rect.unit (s := S7x1024x1024) (soff s) S1x1024x1024.size (soff_inb s)
def slot (d : Bool) (s : Fin 7) : Memref sig .tc .vmem S1024x1024 .bf16 :=
  ((cM d).slice (sR s) (fun _ => rfl)).squeeze S1024x1024 squeezes_S1x1024x1024_S1024x1024
theorem slot_word (d : Bool) (s : Fin 7) : (slot d s).view.WordExact :=
  ((cM_whole d).wordExact_slice rfl _ (soff_words s)).reshape _ _

/-- Where round `r` of the whole-slot copies of stream `d` writes: the chunk held in slot `3 + r`. -/
def ooff (d : Bool) (r : Fin 3) (c : Dev nD) : Fin 2 → Nat := match d, r with
  | false, 0 => k0_off6 c | true, 0 => k0_off7 c
  | false, 1 => k0_off8 c 7#32 | true, 1 => k0_off9 c 0#32
  | false, 2 => k0_off8 c 6#32 | true, 2 => k0_off9 c 1#32
theorem ooff_inb (d : Bool) (r : Fin 3) (c : Dev nD) : ∀ a, ooff d r c a + S1024x1024.size a ≤ S4096x2048.size a := by
  revert d r c; decide +kernel
theorem ooff_words (d : Bool) (r : Fin 3) (c : Dev nD) :
    (Rect.unit (s := S4096x2048) (ooff d r c) S1024x1024.size (ooff_inb d r c)).WholeWords (EltTy.packing .bf16) := by
  revert d r c; decide +kernel
def outM (d : Bool) (r : Fin 3) (c : Dev nD) : Memref sig .tc .hbm S1024x1024 .bf16 :=
  oM.slice (Rect.unit (s := S4096x2048) (ooff d r c) S1024x1024.size (ooff_inb d r c)) (fun _ => rfl)
theorem outM_word (d : Bool) (r : Fin 3) (c : Dev nD) : (outM d r c).view.WordExact :=
  (Memref.isWhole_whole _).wordExact_slice rfl _ (ooff_words d r c)

/-- Where the last chunk's block `b` is written: the chunk held in slot 6. -/
def toff (d : Bool) (b : Fin 8) (c : Dev nD) : Fin 2 → Nat := match d with
  | false => k0_off10 c (BitVec.ofNat 32 (128 * b.val)) | true => k0_off11 c (BitVec.ofNat 32 (128 * b.val))
theorem toff_inb (d : Bool) (b : Fin 8) (c : Dev nD) : ∀ a, toff d b c a + S128x1024.size a ≤ S4096x2048.size a := by
  revert d b c; decide +kernel
theorem toff_words (d : Bool) (b : Fin 8) (c : Dev nD) :
    (Rect.unit (s := S4096x2048) (toff d b c) S128x1024.size (toff_inb d b c)).WholeWords (EltTy.packing .bf16) := by
  revert d b c; decide +kernel
def outB (d : Bool) (b : Fin 8) (c : Dev nD) : Memref sig .tc .hbm S128x1024 .bf16 :=
  oM.slice (Rect.unit (s := S4096x2048) (toff d b c) S128x1024.size (toff_inb d b c)) (fun _ => rfl)
theorem outB_word (d : Bool) (b : Fin 8) (c : Dev nD) : (outB d b c).view.WordExact :=
  (Memref.isWhole_whole _).wordExact_slice rfl _ (toff_words d b c)

theorem hb_inb (h : Fin 6) (b : Fin 8) : ∀ a, (![h.val, b.val] : Fin 2 → Nat) a + S1x1.size a ≤ S6x8.size a := by revert h b; decide
theorem d_inb (d : Fin 2) : ∀ a, (![d.val] : Fin 1 → Nat) a + S1.size a ≤ S2.size a := by revert d; decide

/-- The four semaphore arrays, and the element of hop `h`, block `b`. -/
def arrS (d : Bool) : DmaSems sig S6x8 := match d with | false => cc0_scratch3 | true => cc0_scratch5
def arrV (d : Bool) : DmaSems sig S6x8 := match d with | false => cc0_scratch4 | true => cc0_scratch6
def sS (d : Bool) (h : Fin 6) (b : Fin 8) : DmaSem sig := (((arrS d).slice (Rect.unit (s := S6x8) ![h.val, b.val] S1x1.size (hb_inb h b))).squeeze S_ squeezes_S1x1_S_).sem
def sV (d : Bool) (h : Fin 6) (b : Fin 8) : DmaSem sig := (((arrV d).slice (Rect.unit (s := S6x8) ![h.val, b.val] S1x1.size (hb_inb h b))).squeeze S_ squeezes_S1x1_S_).sem
def dix (d : Bool) : Fin 2 := match d with | false => 0 | true => 1
def sO (d : Bool) : DmaSem sig := (((cc0_scratch7 : DmaSems sig S2).slice (Rect.unit (s := S2) ![(dix d).val] S1.size (d_inb (dix d)))).squeeze S_ squeezes_S1_S_).sem
abbrev barS : Sem sig := (SemArray.scalar (sig.barrier 0 rfl) : Sems sig S_).sem

/-- The neighbour stream `d` is sent to. -/
def tgt (d : Bool) (c : Dev nD) : Dev nD := match d with | false => ⟨k0_dev3 c, k0_dev3_lt c⟩ | true => ⟨k0_dev4 c, k0_dev4_lt c⟩

/-! ## What is computed -/

/-- The first hop's block: the product of 128 rows of `x` and one half of the columns of `w`. -/
def payA (v : Vec F S128x1024 .bf16) (w : Vec F S1024x1024 .bf16) : FVec F S1x128x1024 .bf16 := k0_pay4 v w
/-- A chunk's product, kept in `f32`. -/
def payP (v : Vec F S1024x1024 .bf16) (w : Vec F S1024x1024 .bf16) : FVec F S1024x1024 .f32 := k0_pay21 v w
theorem slices_b (b : Fin 8) : S1024x1024.Slices ![128 * b.val, 0] S128x1024 := by revert b; decide
/-- The received block added to the rows `128 b …` of the product. -/
def sumP (b : Fin 8) (p : FVec F S1024x1024 .f32) (u : Vec F S1x128x1024 .bf16) : FVec F S128x1024 .f32 :=
  addf (extractStridedSlice S128x1024 ![128 * b.val, 0] p (slices_b b)) (extf .f32 (shapeCast S128x1024 u shapeCasts_S1x128x1024_S128x1024) bitsLt_bf16_f32)
def payAcc (b : Fin 8) (p : FVec F S1024x1024 .f32) (u : Vec F S1x128x1024 .bf16) : FVec F S1x128x1024 .bf16 :=
  shapeCast S1x128x1024 (truncf .bf16 (sumP b p u) bitsLt_bf16_f32) shapeCasts_S128x1024_S1x128x1024
/-- The same sum through `r ↦ r · (1 / (1 + exp (0 - r)))`. -/
def paySilu (b : Fin 8) (p : FVec F S1024x1024 .f32) (u : Vec F S1x128x1024 .bf16) : FVec F S1x128x1024 .bf16 := k0_pay72 (sumP b p u)

/-! ## The operations -/

abbrev PG (F : FTy → Type) [FloatOps F] : Type 1 := Prog (TpuEff nD τ sig (Elt F) Λ₀ .tc) PUnit

/-- `x`'s rows of the first hop: `c + 3` (or `c + 1`) is the chunk the stream starts with. -/
def xoffA (d : Bool) (b : Fin 8) (c : Dev nD) : Fin 2 → Nat := match d with
  | false => k0_off1 c (BitVec.ofNat 32 (128 * b.val)) | true => k0_off2 c (BitVec.ofNat 32 (128 * b.val))
theorem xoffA_inb (d : Bool) (b : Fin 8) (c : Dev nD) : ∀ a, xoffA d b c a + S128x1024.size a ≤ S4096x1024.size a := by
  revert d b c; decide +kernel
/-- `x`'s chunk accumulated at hop `h = 1, 2, 3`. -/
def xoffP (d : Bool) (h : Fin 4) (c : Dev nD) : Fin 2 → Nat := match d, h with
  | false, 1 => k0_off3 c 6#32 | true, 1 => k0_off4 c 1#32
  | false, 2 => k0_off3 c 5#32 | true, 2 => k0_off4 c 2#32
  | _, _ => k0_off5 c
theorem xoffP_inb (d : Bool) (h : Fin 4) (c : Dev nD) : ∀ a, xoffP d h c a + S1024x1024.size a ≤ S4096x1024.size a := by
  revert d h c; decide +kernel
abbrev woff (d : Bool) : Fin 2 → Nat := ![0, 1024 * (dix d).val]
theorem woff_inb (d : Bool) : ∀ a, woff d a + S1024x1024.size a ≤ S1024x2048.size a := by revert d; decide

abbrev xRA (d : Bool) (b : Fin 8) (c : Dev nD) : Rect S4096x1024 := Rect.unit (s := S4096x1024) (xoffA d b c) S128x1024.size (xoffA_inb d b c)
abbrev xRP (d : Bool) (h : Fin 4) (c : Dev nD) : Rect S4096x1024 := Rect.unit (s := S4096x1024) (xoffP d h c) S1024x1024.size (xoffP_inb d h c)
abbrev wR (d : Bool) : Rect S1024x2048 := Rect.unit (s := S1024x2048) (woff d) S1024x1024.size (woff_inb d)
abbrev wAll : Rect S1024x2048 := Rect.unit (s := S1024x2048) ![0, 0] S1024x2048.size inb_S1024x2048_S1024x2048_0_0

def slotOf (h : Fin 6) : Fin 7 := h.castSucc

/-- Send hop `h`'s block. -/
def opSend (c : Dev nD) (d : Bool) (h : Fin 6) (b : Fin 8) (k : PG F) : PG F :=
  .op (.enqueueDma (sub d h.castSucc b) (.remote (Dev.tc (tgt d c)) (sub d h.succ b) (.dma (sS d h b))) (.dma (sV d h b))
    (sub_word d h.castSucc b) (sub_word d h.succ b) ⟨⟨rfl, Or.inl rfl⟩, trivial⟩) fun _ => k
def opWaitS (d : Bool) (h : Fin 6) (b : Fin 8) (k : PG F) : PG F :=
  .op (.waitDma2 (sS d h b) (sub d h.succ b) (sub d h.castSucc b) (sub_word d h.succ b) (sub_word d h.castSucc b)) fun _ => k
def opWaitV (d : Bool) (h : Fin 6) (b : Fin 8) (k : PG F) : PG F :=
  .op (.waitDma2 (sV d h b) (sub d h.castSucc b) (sub d h.succ b) (sub_word d h.castSucc b) (sub_word d h.succ b)) fun _ => k
def opLoadB (d : Bool) (s : Fin 7) (b : Fin 8) (k : Vec F S1x128x1024 .bf16 → PG F) : PG F :=
  .op (.load (cM d) (bR s b).toLoadRect (View.loadsAt_vmem h_S1x128x1024)) k
def opStoreB (d : Bool) (s : Fin 7) (b : Fin 8) (w : Vec F S1x128x1024 .bf16) (k : PG F) : PG F :=
  .op (.store (cM d) (bR s b) w Finset.univ (View.stores_vmem h_S1x128x1024 ((cM_whole d).storeExact_slice rfl _ (boff_packed s b)) (fun _ => rfl)) (.inl rfl)) fun _ => k

/-- Hop 0, one block. -/
def stepA (c : Dev nD) (bd : Fin 8 × Bool) (k : PG F) : PG F :=
  .op (.load xM (xRA bd.2 bd.1 c).toLoadRect (View.loadsAt_vmem h_S128x1024)) fun v =>
  .op (.load w16M (wR bd.2).toLoadRect (View.loadsAt_vmem h_S1024x1024)) fun w =>
  opLoadB bd.2 0 bd.1 fun _ => opStoreB bd.2 0 bd.1 (payA v w) <| opSend c bd.2 0 bd.1 k

/-- The product of hop `h`'s chunk. -/
def stepP (c : Dev nD) (d : Bool) (h : Fin 4) (k : FVec F S1024x1024 .f32 → PG F) : PG F :=
  .op (.load xM (xRP d h c).toLoadRect (View.loadsAt_vmem h_S1024x1024)) fun v =>
  .op (.load w16M (wR d).toLoadRect (View.loadsAt_vmem h_S1024x1024)) fun w => k (payP v w)

/-- Hop `h = h' + 1`, one block: the block of hop `h'` waited for, `f` of it stored and sent on. -/
def stepB (c : Dev nD) (h' h : Fin 6) (f : Fin 8 → FVec F S1024x1024 .f32 → Vec F S1x128x1024 .bf16 → FVec F S1x128x1024 .bf16)
    (p : Bool → FVec F S1024x1024 .f32) (bd : Fin 8 × Bool) (k : PG F) : PG F :=
  opWaitS bd.2 h' bd.1 <| opWaitV bd.2 h' bd.1 <|
  opLoadB bd.2 h.castSucc bd.1 fun u => opLoadB bd.2 h.castSucc bd.1 fun _ => opStoreB bd.2 h.castSucc bd.1 (f bd.1 (p bd.2) u) <| opSend c bd.2 h bd.1 k

/-- A block of the gathering hops: waited for and sent on. -/
def stepC (c : Dev nD) (h' h : Fin 6) (bd : Fin 8 × Bool) (k : PG F) : PG F :=
  opWaitS bd.2 h' bd.1 <| opWaitV bd.2 h' bd.1 <| opSend c bd.2 h bd.1 k

/-- The whole-slot copies to the result. -/
def opOut (c : Dev nD) (d : Bool) (r : Fin 3) (s : Fin 7) (k : PG F) : PG F :=
  .op (.enqueueDma (slot d s) (.here (outM d r c)) (.dma (sO d)) (slot_word d s) (outM_word d r c) ⟨Or.inl rfl, trivial⟩) fun _ => k
def opOutWait (c : Dev nD) (d : Bool) (r : Fin 3) (s : Fin 7) (k : PG F) : PG F :=
  .op (.waitDma2 (sO d) (slot d s) (outM d r c) (slot_word d s) (outM_word d r c)) fun _ => k

/-- The tail: the last chunk's blocks. -/
def stepT (c : Dev nD) (bd : Fin 8 × Bool) (k : PG F) : PG F :=
  opWaitS bd.2 5 bd.1 <| opWaitV bd.2 5 bd.1 <|
  .op (.enqueueDma (sub bd.2 6 bd.1) (.here (outB bd.2 bd.1 c)) (.dma (sO bd.2)) (sub_word bd.2 6 bd.1) (outB_word bd.2 bd.1 c) ⟨Or.inl rfl, trivial⟩) fun _ => k
def stepW (c : Dev nD) (bd : Fin 8 × Bool) (k : PG F) : PG F :=
  .op (.waitDma2 (sO bd.2) (sub bd.2 6 bd.1) (outB bd.2 bd.1 c) (sub_word bd.2 6 bd.1) (outB_word bd.2 bd.1 c)) fun _ => k

/-- The blocks in the order every loop takes them. -/
def bds : List (Fin 8 × Bool) :=
  [(0, false), (0, true), (1, false), (1, true), (2, false), (2, true), (3, false), (3, true),
   (4, false), (4, true), (5, false), (5, true), (6, false), (6, true), (7, false), (7, true)]

def loop (f : Fin 8 × Bool → PG F → PG F) (l : List (Fin 8 × Bool)) (k : PG F) : PG F :=
  match l with | [] => k | a :: l => f a (loop f l k)

def both (a b : FVec F S1024x1024 .f32) : Bool → FVec F S1024x1024 .f32 := fun d => match d with | false => a | true => b

/-- The two products, then the loop of an accumulating hop. -/
def hopB (c : Dev nD) (h' h : Fin 6) (hp : Fin 4) (f : Fin 8 → FVec F S1024x1024 .f32 → Vec F S1x128x1024 .bf16 → FVec F S1x128x1024 .bf16) (k : PG F) : PG F :=
  stepP c false hp fun p0 => stepP c true hp fun p1 => loop (stepB c h' h f (both p0 p1)) bds k

def outs (c : Dev nD) (r : Fin 3) (s : Fin 7) (k : PG F) : PG F := opOut c false r s <| opOut c true r s k
def outWaits (c : Dev nD) (r : Fin 3) (s : Fin 7) (k : PG F) : PG F := opOutWait c false r s <| opOutWait c true r s k

/-- After the barrier. -/
def mainB (c : Dev nD) (k : PG F) : PG F :=
  loop (stepA c) bds <| hopB c 0 1 1 payAcc <| hopB c 1 2 2 payAcc <| hopB c 2 3 3 paySilu <|
  outs c 0 3 <| loop (stepC c 3 4) bds <| outWaits c 0 3 <| outs c 1 4 <| loop (stepC c 4 5) bds <|
  outWaits c 1 4 <| outs c 2 5 <| outWaits c 2 5 <| loop (stepT c) bds <| loop (stepW c) bds k

def headB (c : Dev nD) (k : PG F) : PG F :=
  (semSignalWord (⟨k0_dev1 c, k0_dev1_lt c⟩ : Dev nD) barS 1#32).bind fun _ =>
  (semSignalWord (⟨k0_dev2 c, k0_dev2_lt c⟩ : Dev nD) barS 1#32).bind fun _ =>
  .op (.load wM wAll.toLoadRect (View.loadsAt_vmem h_S1024x2048)) fun v =>
  .op (.load w16M wAll.toLoadRect (View.loadsAt_vmem h_S1024x2048)) fun _ =>
  .op (.store w16M wAll (k0_pay1 v) Finset.univ (View.stores_vmem h_S1024x2048 ((Memref.isWhole_whole _).storeExact_slice rfl _ packedbf16_S1024x2048_S1024x2048_0_0) (fun _ => rfl)) (.inl rfl)) fun _ =>
  (semWaitWord barS 2#32).bind fun _ => k

def body : PG F := .op .deviceId fun c => headB c <| mainB c <| .ret ⟨⟩

set_option maxRecDepth 1000000 in
set_option maxHeartbeats 0 in
theorem body_eq (t : Fin cfg0.N) : bodyAt0 (F := F) t = body := rfl

end Cert.RingProof

end
-- ==== Proof.Geom.lean ====
/-
# The blocks of the buffers, and what each holds

The communication buffer of stream `d` is 7 slots of 8 blocks of 128 rows; the result is cut the way the copies
that fill it cut it. `blk d s b c` is what device `c` holds in block `b` of slot `s` of stream `d` when it sends it on
(or, for slot 6, copies it out).
-/
module

public import proofs.«01_k».proof.Proof.Prog
public import Idealize.ShloMosaic.Lib.ValueLayout
public import Idealize.ShloMosaic.Lib.Exec.Geometry

@[expose] public section

noncomputable section

namespace Cert.RingProof

open Cert.KernelIdeal Cert.KernelIdeal.Gen
open Idealize.ShloMosaic Idealize.ShloMosaic.TcCoe Idealize.ShloMosaic.ValueIdx Idealize.SL.Sem

variable {F : FTy → Type} [FloatOps F]

/-! ## The ring -/

/-- The neighbour stream `d` comes from. -/
def frm (d : Bool) (c : Dev nD) : Dev nD := tgt (!d) c
theorem frm_tgt (d : Bool) (c : Dev nD) : frm d (tgt d c) = c := by revert d c; decide +kernel
theorem tgt_frm (d : Bool) (c : Dev nD) : tgt d (frm d c) = c := by revert d c; decide +kernel
/-- The device whose finished chunk reaches `c` after `r` gathering hops. -/
def chk (d : Bool) (r : ℕ) (c : Dev nD) : Dev nD := (frm d)^[r] c

theorem ooff_eq (d : Bool) (r : Fin 3) (c : Dev nD) : ooff d r c = ![1024 * (chk d r.val c).val, 1024 * (dix d).val] := by
  revert d r c; decide +kernel
theorem toff_eq (d : Bool) (b : Fin 8) (c : Dev nD) : toff d b c = ![1024 * (chk d 3 c).val + 128 * b.val, 1024 * (dix d).val] := by
  revert d b c; decide +kernel
theorem chk_cover (d : Bool) (c : Dev nD) (q : Fin 4) : ∃ r : Fin 4, (chk d r.val c).val = q.val := by revert d c q; decide +kernel
theorem chk_inj (d : Bool) (c : Dev nD) (r r' : Fin 4) : (chk d r.val c).val = (chk d r'.val c).val → r = r' := by
  revert d c r r'; decide +kernel

/-! ## The element sets -/

theorem all2 (p : Fin 2 → Prop) : (∀ a, p a) ↔ p 0 ∧ p 1 :=
  ⟨fun h => ⟨h 0, h 1⟩, fun h a => by fin_cases a; exacts [h.1, h.2]⟩
theorem all3 (p : Fin 3 → Prop) : (∀ a, p a) ↔ p 0 ∧ p 1 ∧ p 2 :=
  ⟨fun h => ⟨h 0, h 1, h 2⟩, fun h a => by fin_cases a; exacts [h.1, h.2.1, h.2.2]⟩

/-- The elements of block `b` of slot `s`, and of the slot. -/
def bset (d : Bool) (s : Fin 7) (b : Fin 8) : Finset (cM d).view.ty.Idx := (sub d s b).view.set
theorem bset_eq (d : Bool) (s : Fin 7) (b : Fin 8) : bset d s b = ((cM d).access (bR s b)).set :=
  View.set_reshape _ _

theorem mem_bset_false (s : Fin 7) (b : Fin 8) (i : S7x1024x1024.Idx) :
    i ∈ bset false s b ↔ (i 0).val = s.val ∧ (i 1).val / 128 = b.val := by
  rw [bset_eq]; refine (Finset.ext_iff.mp (View.set_slice_whole cc0_scratch1 (bR s b)) i).trans ?_
  rw [Rect.mem_set_unit]
  refine (all3 _).trans ?_
  have h2 : (i 2).val < 1024 := (i 2).isLt
  show ((s.val ≤ (i 0).val ∧ (i 0).val < s.val + 1) ∧ (128 * b.val ≤ (i 1).val ∧ (i 1).val < 128 * b.val + 128) ∧ (0 ≤ (i 2).val ∧ (i 2).val < 0 + 1024)) ↔ _
  omega
theorem mem_bset_true (s : Fin 7) (b : Fin 8) (i : S7x1024x1024.Idx) :
    i ∈ bset true s b ↔ (i 0).val = s.val ∧ (i 1).val / 128 = b.val := by
  rw [bset_eq]; refine (Finset.ext_iff.mp (View.set_slice_whole cc0_scratch2 (bR s b)) i).trans ?_
  rw [Rect.mem_set_unit]
  refine (all3 _).trans ?_
  have h2 : (i 2).val < 1024 := (i 2).isLt
  show ((s.val ≤ (i 0).val ∧ (i 0).val < s.val + 1) ∧ (128 * b.val ≤ (i 1).val ∧ (i 1).val < 128 * b.val + 128) ∧ (0 ≤ (i 2).val ∧ (i 2).val < 0 + 1024)) ↔ _
  omega

theorem mem_slot_false (s : Fin 7) (i : S7x1024x1024.Idx) : i ∈ (slot false s).view.set ↔ (i 0).val = s.val := by
  rw [show (slot false s).view.set = ((cM false).access (sR s)).set from View.set_reshape _ _]
  refine (Finset.ext_iff.mp (View.set_slice_whole cc0_scratch1 (sR s)) i).trans ?_
  rw [Rect.mem_set_unit]
  refine (all3 _).trans ?_
  have h1 : (i 1).val < 1024 := (i 1).isLt
  have h2 : (i 2).val < 1024 := (i 2).isLt
  show ((s.val ≤ (i 0).val ∧ (i 0).val < s.val + 1) ∧ (0 ≤ (i 1).val ∧ (i 1).val < 0 + 1024) ∧ (0 ≤ (i 2).val ∧ (i 2).val < 0 + 1024)) ↔ _
  omega
theorem mem_slot_true (s : Fin 7) (i : S7x1024x1024.Idx) : i ∈ (slot true s).view.set ↔ (i 0).val = s.val := by
  rw [show (slot true s).view.set = ((cM true).access (sR s)).set from View.set_reshape _ _]
  refine (Finset.ext_iff.mp (View.set_slice_whole cc0_scratch2 (sR s)) i).trans ?_
  rw [Rect.mem_set_unit]
  refine (all3 _).trans ?_
  have h1 : (i 1).val < 1024 := (i 1).isLt
  have h2 : (i 2).val < 1024 := (i 2).isLt
  show ((s.val ≤ (i 0).val ∧ (i 0).val < s.val + 1) ∧ (0 ≤ (i 1).val ∧ (i 1).val < 0 + 1024) ∧ (0 ≤ (i 2).val ∧ (i 2).val < 0 + 1024)) ↔ _
  omega

theorem bset_disj (d : Bool) (p p' : Fin 7 × Fin 8) (h : p ≠ p') : Disjoint (bset d p.1 p.2) (bset d p'.1 p'.2) := by
  rw [Finset.disjoint_left]
  intro i hi hi'
  refine h (Prod.ext (Fin.ext ?_) (Fin.ext ?_)) <;> cases d
  · exact ((mem_bset_false _ _ i).mp hi).1.symm.trans ((mem_bset_false _ _ i).mp hi').1
  · exact ((mem_bset_true _ _ i).mp hi).1.symm.trans ((mem_bset_true _ _ i).mp hi').1
  · exact ((mem_bset_false _ _ i).mp hi).2.symm.trans ((mem_bset_false _ _ i).mp hi').2
  · exact ((mem_bset_true _ _ i).mp hi).2.symm.trans ((mem_bset_true _ _ i).mp hi').2

theorem div128_lt (n : Fin 1024) : n.val / 128 < 8 := by omega

theorem bset_cover (d : Bool) : Finset.univ.biUnion (fun p : Fin 7 × Fin 8 => bset d p.1 p.2) = Finset.univ := by
  cases d
  · exact Finset.eq_univ_of_forall fun (i : S7x1024x1024.Idx) => Finset.mem_biUnion.mpr
      ⟨(i 0, ⟨(i 1).val / 128, div128_lt (i 1)⟩), Finset.mem_univ _, (mem_bset_false _ _ i).mpr ⟨rfl, rfl⟩⟩
  · exact Finset.eq_univ_of_forall fun (i : S7x1024x1024.Idx) => Finset.mem_biUnion.mpr
      ⟨(i 0, ⟨(i 1).val / 128, div128_lt (i 1)⟩), Finset.mem_univ _, (mem_bset_true _ _ i).mpr ⟨rfl, rfl⟩⟩

theorem slot_cover (d : Bool) (s : Fin 7) : Finset.univ.biUnion (fun b : Fin 8 => bset d s b) = (slot d s).view.set := by
  cases d
  · refine Finset.ext fun (i : S7x1024x1024.Idx) => ?_
    refine Finset.mem_biUnion.trans (Iff.trans ?_ (mem_slot_false s i).symm)
    exact ⟨fun ⟨b, _, h⟩ => ((mem_bset_false _ _ i).mp h).1,
      fun h => ⟨⟨(i 1).val / 128, div128_lt (i 1)⟩, Finset.mem_univ _, (mem_bset_false _ _ i).mpr ⟨h, rfl⟩⟩⟩
  · refine Finset.ext fun (i : S7x1024x1024.Idx) => ?_
    refine Finset.mem_biUnion.trans (Iff.trans ?_ (mem_slot_true s i).symm)
    exact ⟨fun ⟨b, _, h⟩ => ((mem_bset_true _ _ i).mp h).1,
      fun h => ⟨⟨(i 1).val / 128, div128_lt (i 1)⟩, Finset.mem_univ _, (mem_bset_true _ _ i).mpr ⟨h, rfl⟩⟩⟩

/-- The result's pieces: stream `d`'s three whole chunks and its last chunk's blocks. -/
abbrev OIx : Type := Bool × (Fin 3 ⊕ Fin 8)
def oset (c : Dev nD) (p : OIx) : Finset (oM.view.ty.Idx) := match p.2 with
  | .inl r => (outM p.1 r c).view.set
  | .inr b => (outB p.1 b c).view.set

theorem mem_outM (d : Bool) (r : Fin 3) (c : Dev nD) (i : S4096x2048.Idx) :
    i ∈ (outM d r c).view.set ↔ (i 0).val / 1024 = (chk d r.val c).val ∧ (i 1).val / 1024 = (dix d).val := by
  refine (Finset.ext_iff.mp (View.set_slice_whole main_v1 (Rect.unit (s := S4096x2048) (ooff d r c) S1024x1024.size (ooff_inb d r c))) i).trans ?_
  rw [Rect.mem_set_unit]
  refine (all2 _).trans ?_
  rw [ooff_eq]
  show ((1024 * (chk d r.val c).val ≤ (i 0).val ∧ (i 0).val < 1024 * (chk d r.val c).val + 1024) ∧ (1024 * (dix d).val ≤ (i 1).val ∧ (i 1).val < 1024 * (dix d).val + 1024)) ↔ _
  omega
theorem mem_outB (d : Bool) (b : Fin 8) (c : Dev nD) (i : S4096x2048.Idx) :
    i ∈ (outB d b c).view.set ↔ ((i 0).val / 1024 = (chk d 3 c).val ∧ (i 1).val / 1024 = (dix d).val) ∧ (i 0).val % 1024 / 128 = b.val := by
  refine (Finset.ext_iff.mp (View.set_slice_whole main_v1 (Rect.unit (s := S4096x2048) (toff d b c) S128x1024.size (toff_inb d b c))) i).trans ?_
  rw [Rect.mem_set_unit]
  refine (all2 _).trans ?_
  rw [toff_eq]
  have hb := b.isLt
  show ((1024 * (chk d 3 c).val + 128 * b.val ≤ (i 0).val ∧ (i 0).val < 1024 * (chk d 3 c).val + 128 * b.val + 128) ∧ (1024 * (dix d).val ≤ (i 1).val ∧ (i 1).val < 1024 * (dix d).val + 1024)) ↔ _
  omega

theorem dix_inj (d d' : Bool) : (dix d).val = (dix d').val → d = d' := by revert d d'; decide
theorem dix_cover (q : Fin 2) : ∃ d : Bool, (dix d).val = q.val := by revert q; decide

theorem oset_disj (c : Dev nD) (p p' : OIx) (h : p ≠ p') : Disjoint (oset c p) (oset c p') := by
  rw [Finset.disjoint_left]
  intro i hi hi'
  obtain ⟨d, r⟩ := p
  obtain ⟨d', r'⟩ := p'
  apply h
  rcases r with r | b <;> rcases r' with r' | b'
  · have h1 := (mem_outM d r c i).mp hi
    have h2 := (mem_outM d' r' c i).mp hi'
    obtain rfl := dix_inj d d' (h1.2.symm.trans h2.2)
    have := chk_inj d c r.castSucc r'.castSucc (h1.1.symm.trans h2.1)
    rw [Fin.castSucc_inj] at this; subst this; rfl
  · have h1 := (mem_outM d r c i).mp hi
    have h2 := (mem_outB d' b' c i).mp hi'
    obtain rfl := dix_inj d d' (h1.2.symm.trans h2.1.2)
    have := chk_inj d c r.castSucc 3 (h1.1.symm.trans h2.1.1)
    exact absurd (congrArg Fin.val this) (Nat.ne_of_lt r.isLt)
  · have h1 := (mem_outB d b c i).mp hi
    have h2 := (mem_outM d' r' c i).mp hi'
    obtain rfl := dix_inj d d' (h1.1.2.symm.trans h2.2)
    have := chk_inj d c r'.castSucc 3 (h2.1.symm.trans h1.1.1)
    exact absurd (congrArg Fin.val this) (Nat.ne_of_lt r'.isLt)
  · have h1 := (mem_outB d b c i).mp hi
    have h2 := (mem_outB d' b' c i).mp hi'
    obtain rfl := dix_inj d d' (h1.1.2.symm.trans h2.1.2)
    obtain rfl : b = b' := Fin.ext (h1.2.symm.trans h2.2)
    rfl

theorem oset_cover (c : Dev nD) : Finset.univ.biUnion (oset c) = Finset.univ := by
  refine Finset.eq_univ_of_forall fun (i : S4096x2048.Idx) => Finset.mem_biUnion.mpr ?_
  have h0 : (i 0).val < 4096 := (i 0).isLt
  have h1 : (i 1).val < 2048 := (i 1).isLt
  obtain ⟨d, hd⟩ := dix_cover ⟨(i 1).val / 1024, by omega⟩
  obtain ⟨r, hr⟩ := chk_cover d c ⟨(i 0).val / 1024, by omega⟩
  by_cases hr3 : r.val < 3
  · exact ⟨(d, .inl ⟨r.val, hr3⟩), Finset.mem_univ _, (mem_outM d ⟨r.val, hr3⟩ c i).mpr ⟨hr.symm, hd.symm⟩⟩
  · have h3 : r.val = 3 := by have := r.isLt; omega
    rw [h3] at hr
    obtain ⟨b, hb⟩ : ∃ b : Fin 8, (i 0).val % 1024 / 128 = b.val := ⟨⟨(i 0).val % 1024 / 128, by omega⟩, rfl⟩
    exact ⟨(d, .inr b), Finset.mem_univ _, (mem_outB d b c i).mpr ⟨⟨hr.symm, hd.symm⟩, hb⟩⟩

/-! ## The contents -/

section Contents

variable (X : Dev nD → Vec F S4096x1024 .bf16) (W : Dev nD → Vec F S1024x2048 .bf16)

def w16 (c : Dev nD) : Vec F S1024x2048 .bf16 := k0_pay1 (W c)
def xA (d : Bool) (b : Fin 8) (c : Dev nD) : Vec F S128x1024 .bf16 := (xM.access (xRA d b c)).read (Elt F) (X c)
def xP (d : Bool) (h : Fin 4) (c : Dev nD) : Vec F S1024x1024 .bf16 := (xM.access (xRP d h c)).read (Elt F) (X c)
def wH (d : Bool) (c : Dev nD) : Vec F S1024x1024 .bf16 := (w16M.access (wR d)).read (Elt F) (w16 W c)
def prod (d : Bool) (h : Fin 4) (c : Dev nD) : FVec F S1024x1024 .f32 := payP (xP X d h c) (wH W d c)

/-- What a device makes of a received block: hops 1 and 2 add its own product, hop 3 adds the last one and applies the
    activation, the later hops pass it on. -/
def stepV (d : Bool) (s : ℕ) (b : Fin 8) (c : Dev nD) (u : Vec F S1x128x1024 .bf16) : Vec F S1x128x1024 .bf16 := match s with
  | 0 => payAcc b (prod X W d 1 c) u
  | 1 => payAcc b (prod X W d 2 c) u
  | 2 => paySilu b (prod X W d 3 c) u
  | _ => u

def blk (d : Bool) : ℕ → Fin 8 → Dev nD → Vec F S1x128x1024 .bf16
  | 0, b, c => payA (xA X d b c) (wH W d c)
  | s + 1, b, c => stepV X W d s b c (blk d s b (frm d c))

theorem blk_chk (d : Bool) (r : ℕ) (b : Fin 8) (c : Dev nD) : blk X W d (3 + r) b c = blk X W d 3 b (chk d r c) := by
  induction r generalizing c with
  | zero => rfl
  | succ r ih =>
    have e : blk X W d (3 + (r + 1)) b c = blk X W d (3 + r) b (frm d c) := by
      rw [show 3 + (r + 1) = (r + 3) + 1 by omega, show 3 + r = r + 3 by omega]; rfl
    exact e.trans (ih (frm d c))

/-- A buffer index's block, and its place in the block. -/
def dS (i : S7x1024x1024.Idx) : ℕ := (i 0).val
def dB (i : S7x1024x1024.Idx) : Fin 8 := ⟨(i 1).val / 128, div128_lt (i 1)⟩
def dJ (i : S7x1024x1024.Idx) : S1x128x1024.Idx := ix3 (0 : Fin 1) (⟨(i 1).val % 128, Nat.mod_lt _ (by decide)⟩ : Fin 128) (i 2 : Fin 1024)

/-- What is sent, and what lands: `Rcv` of the slot after is `Snd` of the sender's slot. -/
def Snd (d : Bool) (c : Dev nD) (i : S7x1024x1024.Idx) : Elt F .bf16 := blk X W d (dS i) (dB i) c (dJ i)
def Rcv (d : Bool) (c : Dev nD) (i : S7x1024x1024.Idx) : Elt F .bf16 := blk X W d (dS i - 1) (dB i) (frm d c) (dJ i)

/-- The result. -/
def Gout (i : S4096x2048.Idx) : Elt F .bf16 :=
  blk X W (decide (1024 ≤ (i 1).val)) 3 ⟨(i 0).val % 1024 / 128, by omega⟩ ⟨(i 0).val / 1024, by have : (i 0).val < 4096 := (i 0).isLt; show _ < 4; omega⟩
    (ix3 (0 : Fin 1) (⟨(i 0).val % 128, Nat.mod_lt _ (by decide)⟩ : Fin 128) (⟨(i 1).val % 1024, Nat.mod_lt _ (by decide)⟩ : Fin 1024))

/-- Contents of the communication buffer of stream `d`. -/
def toC (d : Bool) (f : S7x1024x1024.Idx → Elt F .bf16) : (cM d).view.ty.Contents (Elt F) := match d with | false => f | true => f

end Contents

theorem read_block (d : Bool) (s : Fin 7) (b : Fin 8) (f : S7x1024x1024.Idx → Elt F .bf16) :
    ((cM d).access (bR s b)).read (Elt F) (toC d f) = fun j => f ((bR s b).emb j) := by cases d <;> rfl

theorem emb_dS (s : Fin 7) (b : Fin 8) (j : S1x128x1024.Idx) : dS ((bR s b).emb j) = s.val := by
  have : (j 0).val < 1 := (j 0).isLt
  show s.val + 1 * (j 0).val = s.val; omega
theorem emb_dB (s : Fin 7) (b : Fin 8) (j : S1x128x1024.Idx) : dB ((bR s b).emb j) = b := by
  have : (j 1).val < 128 := (j 1).isLt
  refine Fin.ext ?_
  show (128 * b.val + 1 * (j 1).val) / 128 = b.val; omega
theorem emb_dJ (s : Fin 7) (b : Fin 8) (j : S1x128x1024.Idx) : dJ ((bR s b).emb j) = j := by
  have h0 : (j 0).val < 1 := (j 0).isLt
  have h1 : (j 1).val < 128 := (j 1).isLt
  funext a; refine Fin.ext ?_
  fin_cases a
  · show 0 = (j 0).val; omega
  · show (128 * b.val + 1 * (j 1).val) % 128 = (j 1).val; omega
  · show 0 + 1 * (j 2).val = (j 2).val; omega

variable (X : Dev nD → Vec F S4096x1024 .bf16) (W : Dev nD → Vec F S1024x2048 .bf16)

theorem read_Snd (d : Bool) (s : Fin 7) (b : Fin 8) (c : Dev nD) :
    ((cM d).access (bR s b)).read (Elt F) (toC d (Snd X W d c)) = blk X W d s.val b c := by
  rw [read_block]; funext j; unfold Snd; rw [emb_dS, emb_dB, emb_dJ]
theorem read_Rcv (d : Bool) (s : Fin 7) (b : Fin 8) (c : Dev nD) :
    ((cM d).access (bR s b)).read (Elt F) (toC d (Rcv X W d c)) = blk X W d (s.val - 1) b (frm d c) := by
  rw [read_block]; funext j; unfold Rcv; rw [emb_dS, emb_dB, emb_dJ]

/-- What lands at the target is what was sent. -/
theorem read_land (d : Bool) (h : Fin 6) (b : Fin 8) (c : Dev nD) :
    (sub d h.succ b).view.read (Elt F) (toC d (Rcv X W d (tgt d c))) = (sub d h.castSucc b).view.read (Elt F) (toC d (Snd X W d c)) := by
  have h1 := read_Rcv X W d h.succ b (tgt d c)
  have h2 := read_Snd X W d h.castSucc b c
  rw [frm_tgt] at h1
  have h3 : ((cM d).access (bR h.succ b)).read (Elt F) (toC d (Rcv X W d (tgt d c))) = ((cM d).access (bR h.castSucc b)).read (Elt F) (toC d (Snd X W d c)) := h1.trans h2.symm
  exact funext fun j => congrFun h3 (Shape.reshapeEquiv _ j)

/-- From slot 4 on what is received is what is sent. -/
theorem Rcv_eq_Snd (d : Bool) (c : Dev nD) (s : Fin 7) (hs : 4 ≤ s.val) (b : Fin 8) : ∀ i ∈ bset d s b, toC d (Rcv X W d c) i = toC d (Snd X W d c) i := by
  have key : ∀ i : S7x1024x1024.Idx, (i 0).val = s.val → Rcv X W d c i = Snd X W d c i := fun i hi => by
    unfold Rcv Snd
    have : dS i = (s.val - 4) + 3 + 1 := by show (i 0).val = _; omega
    rw [this]; rfl
  cases d
  · exact fun (i : S7x1024x1024.Idx) hi => key i ((mem_bset_false _ _ i).mp hi).1
  · exact fun (i : S7x1024x1024.Idx) hi => key i ((mem_bset_true _ _ i).mp hi).1

theorem dec_dix (d : Bool) (y : ℕ) (hy : y < 1024) : decide (1024 ≤ 1024 * (dix d).val + y) = d := by
  cases d
  · exact decide_eq_false (by show ¬ 1024 ≤ 1024 * 0 + y; omega)
  · exact decide_eq_true (by show 1024 ≤ 1024 * 1 + y; omega)

theorem Gout_at (d : Bool) (q : Dev nD) (b : Fin 8) (x : Fin 128) (y : Fin 1024) (i : S4096x2048.Idx)
    (h0 : (i 0).val = 1024 * q.val + 128 * b.val + x.val) (h1 : (i 1).val = 1024 * (dix d).val + y.val) :
    Gout X W i = blk X W d 3 b q (ix3 (0 : Fin 1) x y) := by
  have hq : q.val < 4 := q.isLt
  unfold Gout
  have e1 : decide (1024 ≤ (i 1).val) = d := by rw [h1]; exact dec_dix d y.val y.isLt
  have e2 : (⟨(i 0).val % 1024 / 128, by omega⟩ : Fin 8) = b := Fin.ext (by show (i 0).val % 1024 / 128 = b.val; omega)
  have e3 : (⟨(i 0).val / 1024, by show _ < 4; omega⟩ : Dev nD) = q := Fin.ext (by show (i 0).val / 1024 = q.val; omega)
  have e4 : (⟨(i 0).val % 128, Nat.mod_lt _ (by decide)⟩ : Fin 128) = x := Fin.ext (by show (i 0).val % 128 = x.val; omega)
  have e5 : (⟨(i 1).val % 1024, Nat.mod_lt _ (by decide)⟩ : Fin 1024) = y := Fin.ext (by show (i 1).val % 1024 = y.val; omega)
  rw [e1, e2, e3, e4, e5]

/-- What a whole-slot copy reads is the result's chunk. -/
theorem read_out (d : Bool) (r : Fin 3) (s : Fin 7) (hs : s.val = 3 + r.val) (c : Dev nD) :
    (outM d r c).view.read (Elt F) (Gout X W) = (slot d s).view.read (Elt F) (toC d (Snd X W d c)) := by
  funext (j : S1024x1024.Idx)
  obtain ⟨x, hx⟩ : ∃ x : Fin 1024, x = j 0 := ⟨_, rfl⟩
  obtain ⟨y, hy⟩ : ∃ y : Fin 1024, y = j 1 := ⟨_, rfl⟩
  have hj : j = ix2 x y := by rw [hx, hy]; exact eq_ix2 j
  clear hx hy; subst hj
  have hl : (slot d s).view.read (Elt F) (toC d (Snd X W d c)) (ix2 x y) = Snd X W d c ((sR s).emb (Shape.reshapeEquiv squeezes_S1x1024x1024_S1024x1024.numel_eq (ix2 x y))) := by
    cases d <;> rfl
  refine Eq.trans (b := Gout X W ((Rect.unit (s := S4096x2048) (ooff d r c) S1024x1024.size (ooff_inb d r c)).emb (ix2 x y))) rfl
    (Eq.trans ?_ hl.symm)
  rw [reshapeEquiv_ix2_1ab]
  rw [Gout_at X W d (chk d r.val c) ⟨x.val / 128, by omega⟩ ⟨x.val % 128, Nat.mod_lt _ (by decide)⟩ y]
  · unfold Snd
    have e1 : dS ((sR s).emb (ix3 (⟨0, Nat.one_pos⟩ : Fin 1) x y)) = 3 + r.val := hs ▸ (show s.val + 1 * 0 = s.val by omega)
    have e2 : dB ((sR s).emb (ix3 (⟨0, Nat.one_pos⟩ : Fin 1) x y)) = ⟨x.val / 128, by omega⟩ := Fin.ext (by show (0 + 1 * x.val) / 128 = x.val / 128; omega)
    have e3 : dJ ((sR s).emb (ix3 (⟨0, Nat.one_pos⟩ : Fin 1) x y)) = ix3 (0 : Fin 1) (⟨x.val % 128, Nat.mod_lt _ (by decide)⟩ : Fin 128) y := by
      funext a; refine Fin.ext ?_
      fin_cases a
      · rfl
      · show (0 + 1 * x.val) % 128 = x.val % 128; omega
      · show 0 + 1 * y.val = y.val; omega
    rw [e1, e2, e3, blk_chk]
  · show ooff d r c 0 + 1 * x.val = _
    rw [ooff_eq]; show 1024 * _ + 1 * x.val = 1024 * _ + 128 * (x.val / 128) + x.val % 128; omega
  · show ooff d r c 1 + 1 * y.val = _
    rw [ooff_eq]; show 1024 * _ + 1 * y.val = _; omega

theorem read_outB (d : Bool) (b : Fin 8) (c : Dev nD) :
    (outB d b c).view.read (Elt F) (Gout X W) = (sub d 6 b).view.read (Elt F) (toC d (Snd X W d c)) := by
  have h2 := read_Snd X W d 6 b c
  funext (j : S128x1024.Idx)
  obtain ⟨x, hx⟩ : ∃ x : Fin 128, x = j 0 := ⟨_, rfl⟩
  obtain ⟨y, hy⟩ : ∃ y : Fin 1024, y = j 1 := ⟨_, rfl⟩
  have hj : j = ix2 x y := by rw [hx, hy]; exact eq_ix2 j
  clear hx hy; subst hj
  have hl : (sub d 6 b).view.read (Elt F) (toC d (Snd X W d c)) (ix2 x y) = blk X W d 6 b c (Shape.reshapeEquiv squeezes_S1x128x1024_S128x1024.numel_eq (ix2 x y)) :=
    congrFun h2 _
  refine Eq.trans (b := Gout X W ((Rect.unit (s := S4096x2048) (toff d b c) S128x1024.size (toff_inb d b c)).emb (ix2 x y))) rfl
    (Eq.trans ?_ hl.symm)
  rw [reshapeEquiv_ix2_1ab]
  rw [Gout_at X W d (chk d 3 c) b x y]
  · exact congrFun (blk_chk X W d 3 b c).symm _
  · show toff d b c 0 + 1 * x.val = _
    rw [toff_eq]; show 1024 * _ + 128 * b.val + 1 * x.val = _; omega
  · show toff d b c 1 + 1 * y.val = _
    rw [toff_eq]; show 1024 * _ + 1 * y.val = _; omega

end Cert.RingProof

end
-- ==== Proof.Proto.lean ====
/-
# The protocol: the semaphores, what each wait brings, who owes what

Every semaphore of the kernel is a cell whose rounds are fixed beforehand. The barrier's two units bring the
neighbours' receiving buffers; the semaphore a send is signed off on brings the sent block back, the one it arrives on
brings the block that landed; the store semaphore of a stream brings, in rounds 0 to 2, a whole chunk of the result
and, in round 3, the last chunk's eight blocks.
-/
module

public import proofs.«01_k».proof.Proof.Geom
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) (Fin 8)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR
abbrev 𝒱₀ : Variants := Variants.none
abbrev WP (c : Dev nD) (k : PG F) (Q : PUnit → sProp 𝕄) : sProp 𝕄 := wp frame (wpE (defs₀ (F := F)) 𝒱₀ (c : Thread nD τ) none) Set.univ k Q

/-! ## The cells -/

/-- A transfer: its hop, its row block, its stream. -/
abbrev Key : Type := Fin 6 × Fin 8 × Bool
/-- The scoped semaphores: of a transfer the sender's and the receiver's; of a stream the store semaphore. -/
abbrev CI : Type := Key ⊕ Key ⊕ Bool
def csem : CI → SemLoc sig
  | .inl k => .dma (sS k.2.2 k.1 k.2.1)
  | .inr (.inl k) => .dma (sV k.2.2 k.1 k.2.1)
  | .inr (.inr d) => .dma (sO d)
/-- All of them, the barrier (`none`) too. -/
def asem : Option CI → SemLoc sig
  | none => .reg barS
  | some i => csem i

/-- Which of them a semaphore is, read off its number. -/
def dec (n : ℕ) : Option CI :=
  if n < 2 then none
  else if n - 2 < 192 then
    let k : Key := (⟨(n - 2) % 48 / 8, by omega⟩, ⟨(n - 2) % 8, by omega⟩, decide (96 ≤ n - 2))
    some (if (n - 2) / 48 % 2 = 0 then .inl k else .inr (.inl k))
  else some (.inr (.inr (decide (194 < n))))
def role : SemLoc sig → Option (Option CI)
  | .reg _ => some none
  | .dma q => (dec q.val).map some

instance : DecidableEq (Option (Option CI)) := @Option.instDecidableEq _ (@Option.instDecidableEq _ inferInstance)

theorem role_snd (k : Key) : role (.dma (sS k.2.2 k.1 k.2.1)) = some (some (.inl k)) := by revert k; decide +kernel
theorem role_rcv (k : Key) : role (.dma (sV k.2.2 k.1 k.2.1)) = some (some (.inr (.inl k))) := by revert k; decide +kernel
theorem role_out (d : Bool) : role (.dma (sO d)) = some (some (.inr (.inr d))) := by revert d; decide +kernel
theorem role_asem (o : Option CI) : role (asem o) = some o := by
  rcases o with _ | (k | k | d)
  exacts [rfl, role_snd k, role_rcv k, role_out d]

abbrev cell (c : Dev nD) (o : Option CI) : GSem nD τ sig := ((c : Thread nD τ), asem o)
abbrev barCell (c : Dev nD) : GSem nD τ sig := cell c none
abbrev sCell (c : Dev nD) (k : Key) : GSem nD τ sig := cell c (some (.inl k))
abbrev vCell (c : Dev nD) (k : Key) : GSem nD τ sig := cell c (some (.inr (.inl k)))
abbrev oCell (c : Dev nD) (d : Bool) : GSem nD τ sig := cell c (some (.inr (.inr d)))

theorem cell_inj {c c' : Dev nD} {o o' : Option CI} (h : cell c o = cell c' o') : c = c' ∧ o = o' := by
  constructor
  · exact congrArg (fun g : GSem nD τ sig => g.1.1) h
  · have : role (asem o) = role (asem o') := congrArg (fun g : GSem nD τ sig => role g.2) h
    rw [role_asem, role_asem] at this; exact Option.some.inj this

@[irreducible] def NB : ℕ := (sub false 0 0).view.dmaCredit
@[irreducible] def NS : ℕ := (slot false 0).view.dmaCredit
theorem NB_pos : 0 < NB := by unfold NB; exact View.dmaCredit_pos _ (by decide)
theorem NS_pos : 0 < NS := by unfold NS; exact View.dmaCredit_pos _ (by decide)
theorem NB_sub (d : Bool) (s : Fin 7) (b : Fin 8) : (sub d s b).view.dmaCredit = NB := by unfold NB; cases d <;> rfl
theorem NB_out (d : Bool) (b : Fin 8) (c : Dev nD) : (outB d b c).view.dmaCredit = NB := by unfold NB; cases d <;> rfl
theorem NS_slot (d : Bool) (s : Fin 7) : (slot d s).view.dmaCredit = NS := by unfold NS; cases d <;> rfl
theorem NS_out (d : Bool) (r : Fin 3) (c : Dev nD) : (outM d r c).view.dmaCredit = NS := by unfold NS; cases d <;> rfl

/-! ## The buffers' pieces -/

variable (X : Dev nD → Vec F S4096x1024 .bf16) (W : Dev nD → Vec F S1024x2048 .bf16)

/-- The block at some contents; at what is sent; at what landed. -/
def anB (c : Dev nD) (d : Bool) (s : Fin 7) (b : Fin 8) : sProp 𝕄 :=
  iprop(∃ f, ((sub d s b).view.loc (c : Thread nD τ) ↦[(sub d s b).view.set]{fullShare} f))
def snB (c : Dev nD) (d : Bool) (s : Fin 7) (b : Fin 8) (q : PosShare TreeShare) : sProp 𝕄 :=
  (sub d s b).view.loc (c : Thread nD τ) ↦[(sub d s b).view.set]{q} toC d (Snd X W d c)
def rcB (c : Dev nD) (d : Bool) (s : Fin 7) (b : Fin 8) : sProp 𝕄 :=
  (sub d s b).view.loc (c : Thread nD τ) ↦[(sub d s b).view.set]{fullShare} toC d (Rcv X W d c)
/-- A whole slot at what is sent; the result's pieces. -/
def snS (c : Dev nD) (d : Bool) (s : Fin 7) (q : PosShare TreeShare) : sProp 𝕄 :=
  (slot d s).view.loc (c : Thread nD τ) ↦[(slot d s).view.set]{q} toC d (Snd X W d c)
def anM (c : Dev nD) (d : Bool) (r : Fin 3) : sProp 𝕄 :=
  iprop(∃ f, ((outM d r c).view.loc (c : Thread nD τ) ↦[(outM d r c).view.set]{fullShare} f))
def anO (c : Dev nD) (d : Bool) (b : Fin 8) : sProp 𝕄 :=
  iprop(∃ f, ((outB d b c).view.loc (c : Thread nD τ) ↦[(outB d b c).view.set]{fullShare} f))
def goM (c : Dev nD) (d : Bool) (r : Fin 3) : sProp 𝕄 :=
  (outM d r c).view.loc (c : Thread nD τ) ↦[(outM d r c).view.set]{fullShare} Gout X W
def goB (c : Dev nD) (d : Bool) (b : Fin 8) : sProp 𝕄 :=
  (outB d b c).view.loc (c : Thread nD τ) ↦[(outB d b c).view.set]{fullShare} Gout X W

theorem st_pt (ℓ : Loc nD τ sig) (I : Finset (Idx ℓ)) (q : PosShare TreeShare) (f : Buf (Elt F) ℓ) :
    BI.Storable (upEmb : UEmb _ 𝕄) (ℓ ↦[I]{q} f : sProp 𝕄) := inferInstance
instance anB_st (c : Dev nD) (d s b) : BI.Storable (upEmb : UEmb _ 𝕄) (anB (F := F) c d s b) := by unfold anB; infer_instance
instance snB_st (c : Dev nD) (d s b q) : BI.Storable (upEmb : UEmb _ 𝕄) (snB X W c d s b q) := by unfold snB; exact st_pt _ _ _ _
instance rcB_st (c : Dev nD) (d s b) : BI.Storable (upEmb : UEmb _ 𝕄) (rcB X W c d s b) := by unfold rcB; exact st_pt _ _ _ _
instance snS_st (c : Dev nD) (d s q) : BI.Storable (upEmb : UEmb _ 𝕄) (snS X W c d s q) := by unfold snS; exact st_pt _ _ _ _
instance goM_st (c : Dev nD) (d r) : BI.Storable (upEmb : UEmb _ 𝕄) (goM X W c d r) := by unfold goM; exact st_pt _ _ _ _
instance goB_st (c : Dev nD) (d b) : BI.Storable (upEmb : UEmb _ 𝕄) (goB X W c d b) := by unfold goB; exact st_pt _ _ _ _

/-- The share a hop's send reads its block at: from hop 3 on a copy to the result reads it too. -/
def srcq (h : Fin 6) : PosShare TreeShare := if h.val ≤ 2 then fullShare else fullShare.left
def slotR (r : Fin 3) : Fin 7 := match r with | 0 => 3 | 1 => 4 | 2 => 5
theorem slotR_val (r : Fin 3) : (slotR r).val = 3 + r.val := by revert r; decide

/-! ## The schedule -/

/-- What stream `d`'s unit on `c`'s barrier brings: the target's receiving slots. -/
def barPay (c : Dev nD) (d : Bool) : sProp 𝕄 := bigSep Finset.univ fun p : Fin 6 × Fin 8 => anB (tgt d c) d p.1.succ p.2
def outPay (c : Dev nD) (d : Bool) (r : Fin 3) : sProp 𝕄 := iprop(goM X W c d r ∗ snS X W c d (slotR r) fullShare.right)
def tailPay (c : Dev nD) (d : Bool) (b : Fin 8) : sProp 𝕄 := iprop(goB X W c d b ∗ snB X W c d 6 b fullShare)
instance barPay_st (c : Dev nD) (d) : BI.Storable (upEmb : UEmb _ 𝕄) (barPay (F := F) c d) := by unfold barPay; infer_instance
instance outPay_st (c : Dev nD) (d r) : BI.Storable (upEmb : UEmb _ 𝕄) (outPay X W c d r) := by unfold outPay; infer_instance
instance tailPay_st (c : Dev nD) (d b) : BI.Storable (upEmb : UEmb _ 𝕄) (tailPay X W c d b) := by unfold tailPay; infer_instance

def dn (d : Bool) : Fin 8 := if d then 1 else 0

def dutiesOf (o : Option CI) (r : ℕ) : Finset (Fin 8) := match o with
  | none => if r = 0 then {0, 1} else ∅
  | some (.inl _) => if r = 0 then {0} else ∅
  | some (.inr (.inl _)) => if r = 0 then {0} else ∅
  | some (.inr (.inr _)) => if r < 3 then {0} else if r = 3 then Finset.univ else ∅
def amountOf (o : Option CI) (r : ℕ) : ℕ := match o with
  | none => 1
  | some (.inr (.inr _)) => if r < 3 then NS else NB
  | _ => NB
def payOf (c : Dev nD) (o : Option CI) (r : ℕ) (i : Fin 8) : sProp 𝕄 := match o with
  | none => barPay c (decide (i ≠ 0))
  | some (.inl k) => snB X W c k.2.2 k.1.castSucc k.2.1 (srcq k.1)
  | some (.inr (.inl k)) => rcB X W c k.2.2 k.1.succ k.2.1
  | some (.inr (.inr d)) => if h : r < 3 then outPay X W c d ⟨r, h⟩ else tailPay X W c d i
instance payOf_st (c : Dev nD) (o r i) : BI.Storable (upEmb : UEmb _ 𝕄) (payOf X W c o r i) := by
  rcases o with _ | (k | k | d)
  · exact barPay_st _ _
  · exact snB_st X W _ _ _ _ _
  · exact rcB_st X W _ _ _ _
  · show BI.Storable upEmb (if h : r < 3 then outPay X W c d ⟨r, h⟩ else tailPay X W c d i)
    split <;> infer_instance

theorem amountOf_pos (o : Option CI) (r : ℕ) : 0 < amountOf o r := by
  rcases o with _ | (k | k | d)
  · exact Nat.one_pos
  · exact NB_pos
  · exact NB_pos
  · show 0 < if r < 3 then NS else NB
    split; exacts [NS_pos, NB_pos]

def Rd : Rounds.Schedule (GSem nD τ sig) (Fin 8) 𝕄 where
  duties g r := match role g.2 with | some o => dutiesOf o r | none => ∅
  unitless _ := False
  amount g r _ := match role g.2 with | some o => amountOf o r | none => 1
  payload g r i := match role g.2 with | some o => payOf X W g.1.1 o r i | none => iprop(emp)
  amount_pos g r _ _ := by
    cases h : role g.2 with
    | none => exact Nat.one_pos
    | some o => exact amountOf_pos o r

instance Rd_st (g : GSem nD τ sig) (r : ℕ) (i : Fin 8) : BI.Storable (upEmb : UEmb _ 𝕄) ((Rd X W).payload g r i) := by
  show BI.Storable upEmb (match role g.2 with | some o => payOf X W g.1.1 o r i | none => iprop(emp))
  split <;> infer_instance

theorem duties_cell (c : Dev nD) (o : Option CI) (r : ℕ) : (Rd X W).duties (cell c o) r = dutiesOf o r := by
  show (match role (asem o) with | some o => dutiesOf o r | none => ∅) = _
  rw [role_asem]
theorem amount_cell (c : Dev nD) (o : Option CI) (r : ℕ) (i : Fin 8) : (Rd X W).amount (cell c o) r i = amountOf o r := by
  show (match role (asem o) with | some o => amountOf o r | none => 1) = _
  rw [role_asem]
theorem payload_cell (c : Dev nD) (o : Option CI) (r : ℕ) (i : Fin 8) : (Rd X W).payload (cell c o) r i = payOf X W c o r i := by
  show (match role (asem o) with | some o => payOf X W c o r i | none => iprop(emp)) = _
  rw [role_asem]
theorem expect_cell (c : Dev nD) (o : Option CI) (r : ℕ) : (Rd X W).expect (cell c o) r = (dutiesOf o r).card * amountOf o r := by
  unfold Schedule.expect Schedule.amountOf
  rw [duties_cell, Finset.sum_congr rfl fun i _ => amount_cell X W c o r i, Finset.sum_const, smul_eq_mul]

/-! ## What each device owes; the levels -/

def hopK (h : Fin 6) : List Key := bds.map fun bd => (h, bd)
/-- The transfers a device still has to start, each owed to its target's receiving cell. -/
def oweL (c : Dev nD) : List Key → CellTallies nD τ sig Unit
  | [] => 0
  | k :: l => oweL c l + tallyAt (vCell (tgt k.2.2 c) k) () NB
def allK : List Key := [0, 1, 2, 3, 4, 5].flatMap hopK
def O₁ (c : Dev nD) : CellTallies nD τ sig Unit := oweL c allK + tallyAt (barCell (tgt false c)) () 1
def O₀ (c : Dev nD) : CellTallies nD τ sig Unit := O₁ c + tallyAt (barCell (tgt true c)) () 1

def L (g : GSem nD τ sig) : Finset Unit := if g.1.2 = .tc then {()} else ∅
def lvOf : Option (Option CI) → ℕ
  | some none => 1
  | some (some (.inr (.inl k))) => k.1.val + 2
  | _ => 0
def lv (g : GSem nD τ sig) (_ : Unit) : ℕ := lvOf (role g.2)
theorem lv_cell (c : Dev nD) (o : Option CI) (u : Unit) : lv (cell c o) u = lvOf (some o) := by unfold lv; exact congrArg lvOf (role_asem o)

theorem L_of_ne (g : GSem nD τ sig) (h : g.1.2 ≠ .tc) : L g = ∅ := if_neg h
theorem L_tc (c : Dev nD) (sm : SemLoc sig) : L ((c : Thread nD τ), sm) = {()} := if_pos rfl

theorem oweL_pos {c : Dev nD} {l : List Key} {g : GSem nD τ sig} {u : Unit} (h : 0 < oweL c l g u) : ∃ k ∈ l, g = vCell (tgt k.2.2 c) k := by
  induction l with
  | nil => exact absurd h (Nat.lt_irrefl 0)
  | cons k l ih =>
    unfold oweL at h
    rw [Pi.add_apply, Finsupp.add_apply, tallyAt_apply] at h
    by_cases hg : g = vCell (tgt k.2.2 c) k
    · exact ⟨k, List.mem_cons_self, hg⟩
    · rw [if_neg (fun h' => hg h'.1)] at h
      obtain ⟨k', hk', e⟩ := ih h
      exact ⟨k', List.mem_cons_of_mem _ hk', e⟩
theorem O₀_pos {c : Dev nD} {g : GSem nD τ sig} {u : Unit} (h : 0 < O₀ c g u) : (∃ k ∈ allK, g = vCell (tgt k.2.2 c) k) ∨ ∃ d, g = barCell (tgt d c) := by
  unfold O₀ O₁ at h
  generalize allK = l at h ⊢
  rw [Pi.add_apply, Finsupp.add_apply, Pi.add_apply, Finsupp.add_apply, tallyAt_apply, tallyAt_apply] at h
  by_cases h1 : g = barCell (tgt false c)
  · exact .inr ⟨false, h1⟩
  by_cases h2 : g = barCell (tgt true c)
  · exact .inr ⟨true, h2⟩
  rw [if_neg (fun h' => h1 h'.1), if_neg (fun h' => h2 h'.1)] at h
  exact .inl (oweL_pos h)

/-- A wait is allowed when its cell lies below everything owed. -/
theorem mayWait_L (c : Dev nD) (sm : SemLoc sig) (l : List Key) (n : ℕ) (hs : lvOf (role sm) ≤ n) (hl : ∀ k ∈ l, n < k.1.val + 2) :
    (levAts L lv : sProp 𝕄) ⊢ MayWait (c : Thread nD τ) sm () (oweL c l) :=
  MayOwe.of_cut (L := L) (lev := lv) n (fun p hp => by rw [Finset.mem_singleton.mp hp, L_tc]; exact Finset.mem_singleton_self _)
    (fun g u hg => by obtain ⟨k, _, rfl⟩ := oweL_pos hg; exact Finset.mem_singleton_self _)
    (fun p hp => by rw [Finset.mem_singleton.mp hp]; exact hs)
    (fun g u hg => by obtain ⟨k, hk, rfl⟩ := oweL_pos hg; rw [lv_cell]; exact hl k hk)
theorem mayWait_stage (c : Dev nD) (q : DmaSem sig) (hq : q.val < 2) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨k, _, rfl⟩ | ⟨d, rfl⟩ <;> exact Finset.mem_singleton_self _)
      (fun p hp => by
        rw [Finset.mem_singleton.mp hp]
        show lvOf ((dec q.val).map some) ≤ 0
        unfold dec; rw [if_pos hq]; exact Nat.le_refl 0)
      (fun g u hg => by
        rcases O₀_pos hg with ⟨k, _, rfl⟩ | ⟨d, rfl⟩
        · rw [lv_cell]; exact Nat.succ_pos _
        · rw [lv_cell]; exact Nat.one_pos)
  · rw [MayWait_zero]; iintro -; iempintro

end Cert.RingProof

end
-- ==== Proof.Steps.lean ====
/-
# One operation at a time

The rules for the operations of `Prog`, at a symbolic device, hop, block and stream.
-/
module

public import proofs.«01_k».proof.Proof.Proto

@[expose] public section

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

instance : DecidableEq (Option CI) := @Option.instDecidableEq _ inferInstance

variable (X : Dev nD → Vec F S4096x1024 .bf16) (W : Dev nD → Vec F S1024x2048 .bf16)

/-! ## What everybody knows -/

def recs (K : Dev nD × Option CI → ℕ) : sProp 𝕄 :=
  iprop((bigSep Finset.univ fun ck : Dev nD × Option CI => cellInv ER (Rd X W) (K ck) (cell ck.1 ck.2))
    ∗ (bigSep Finset.univ fun ck : Dev nD × Option CI => reached ER (cell ck.1 ck.2) 0) ∗ levAts L lv)
instance recs_persistent (K : Dev nD × Option CI → ℕ) : BI.Persistent (recs X W K) := by unfold recs; infer_instance

theorem recs_inv (K : Dev nD × Option CI → ℕ) (c : Dev nD) (o : Option CI) : recs X W K ⊢ cellInv ER (Rd X W) (K (c, o)) (cell c o) := by
  unfold recs
  refine BIBase.Entails.trans ?_ (bigSep_elim (Φ := fun ck : Dev nD × Option CI => cellInv ER (Rd X W) (K ck) (cell ck.1 ck.2)) (Finset.mem_univ (c, o)))
  iintro ⟨#H, -⟩; iexact H
theorem recs_reached (K : Dev nD × Option CI → ℕ) (c : Dev nD) (o : Option CI) : recs X W K ⊢ reached ER (cell c o) 0 := by
  unfold recs
  refine BIBase.Entails.trans ?_ (bigSep_elim (Φ := fun ck : Dev nD × Option CI => (reached ER (cell ck.1 ck.2) 0 : sProp 𝕄)) (Finset.mem_univ (c, o)))
  iintro ⟨-, #H, -⟩; iexact H
theorem recs_lev (K : Dev nD × Option CI → ℕ) : recs X W K ⊢ levAts L lv := by
  unfold recs
  iintro ⟨-, -, #H⟩; iexact H

/-- Device `c` owes the transfers of `l`. -/
def ow (c : Dev nD) (l : List Key) : sProp 𝕄 := iprop(∃ w : Waits sig Unit, owes (c : Thread nD τ) (oweL c l) w)

/-- What a send needs besides its block. -/
def sndTok (c : Dev nD) (k : Key) : sProp 𝕄 :=
  iprop(dutyTok ER (sCell c k) 0 0 ∗ dutyTok ER (vCell (tgt k.2.2 c) k) 0 0 ∗ anB (tgt k.2.2 c) k.2.2 k.1.succ k.2.1)
/-- What it leaves. -/
def crS (c : Dev nD) (k : Key) : sProp 𝕄 := cred (tallyAt (sCell c k) () NB)
/-- What waiting for both ends of a transfer needs besides `crS`, and what it leaves. -/
def waitTok (c : Dev nD) (k : Key) : sProp 𝕄 := iprop(atPos ER (sCell c k) 0 ∅ 0 ∗ atPos ER (vCell c k) 0 ∅ 0 ∗ cred (tallyAt (vCell c k) () NB))
def waited (c : Dev nD) (k : Key) : sProp 𝕄 := iprop(atPos ER (sCell c k) (0 + 1) ∅ 0 ∗ atPos ER (vCell c k) (0 + 1) ∅ 0)

/-! ## The rules -/

/-- What is written into a view is what any contents read there as that have it. -/
theorem write_agree {sp : Space} {s : Shape} {e : EltTy} (v : View sig .tc sp s e) (f g : v.ty.Contents (Elt F)) (x : s.Idx → Elt F e) (h : v.read (Elt F) g = x)
    (i : v.ty.Idx) (hi : i ∈ v.setOn Finset.univ) : v.write (Elt F) f x Finset.univ i = g i := by
  rw [← h, View.write_read_eq_piecewise]
  exact Finset.piecewise_eq_of_mem _ _ _ hi

theorem land_eq (d : Bool) (h : Fin 6) (b : Fin 8) (c : Dev nD) (fd : Buf (Elt F) ((sub d h.succ b).view.loc (tgt d c : Thread nD τ))) :
    ((sub d h.succ b).view.loc (tgt d c : Thread nD τ) ↦[(sub d h.succ b).view.set]{fullShare}
      ((sub d h.succ b).view.write (Elt F) fd ((sub d h.castSucc b).view.read (Elt F) (toC d (Snd X W d c))) Finset.univ) : sProp 𝕄)
      = rcB X W (tgt d c) d h.succ b := by
  unfold rcB
  exact pointsTo_congr fun i hi => write_agree (sub d h.succ b).view fd (toC d (Rcv X W d (tgt d c))) _ (read_land X W d h b c) i hi

theorem wp_send_blk (K : Dev nD × Option CI → ℕ) (c : Dev nD) (h : Fin 6) (b : Fin 8) (d : Bool) (l : List Key) (k : PG F) (Q : PUnit → sProp 𝕄) :
    iprop(recs X W K ∗ snB X W c d h.castSucc b (srcq h) ∗ sndTok c (h, b, d) ∗ ow c ((h, b, d) :: l))
      ⊢ iprop(((crS c (h, b, d) ∗ ow c l) -∗ WP c k Q) -∗ WP c (opSend c d h b k) Q) := by
  unfold ow sndTok anB
  iintro ⟨#HR, Hsrc, ⟨Hts, Htv, ⟨%fd, Hdst⟩⟩, ⟨%w, HO⟩⟩ Hk
  unfold snB
  iapply (Rounds.wp_send_pointsTo 𝒱₀ ER (Rd X W) (c : Thread nD τ) none (κ₁ := K (c, some (.inl (h, b, d)))) (κ₂ := K (tgt d c, some (.inr (.inl (h, b, d)))))
    (sS := asem (some (.inl (h, b, d)))) (sem := asem (some (.inr (.inl (h, b, d)))))
    (r₁ := 0) (r₂ := 0) (d₁ := 0) (d₂ := 0) (fd := fd)
    (by rw [duties_cell]; exact Finset.mem_singleton_self _) (by rw [duties_cell]; exact Finset.mem_singleton_self _)
    () () NB (NB_sub d h.succ b) (amount_cell X W c (some (.inl (h, b, d))) 0 0) (amount_cell X W (tgt d c) (some (.inr (.inl (h, b, d)))) 0 0)
    (oweL c l) rfl (W := w)
    (by rw [payload_cell]; exact BI.Entails.refl _)
    (by rw [payload_cell]; exact Entails.of_eq (land_eq X W d h b c fd))) $$ [Hsrc Hts Htv Hdst HO]
  · isplitr; · iapply (recs_inv X W K c (some (.inl (h, b, d)))); iexact HR
    isplitr; · iapply (recs_inv X W K (tgt d c) (some (.inr (.inl (h, b, d))))); iexact HR
    isplitl [Hsrc]; · iexact Hsrc
    isplitl [Hdst]; · iexact Hdst
    isplitl [HO]; · iexact HO
    isplitl [Hts]; · iexact Hts
    isplitr; · iapply (recs_reached X W K c (some (.inl (h, b, d)))); iexact HR
    isplitl [Htv]; · iexact Htv
    iapply (recs_reached X W K (tgt d c) (some (.inr (.inl (h, b, d))))); iexact HR
  iintro ⟨Hc, HO⟩
  iapply Hk
  isplitl [Hc]; · unfold crS; iexact Hc
  iexists w; iexact HO

/-- A wait for the whole of the open round `R` of a cell of one duty. -/
theorem wp_wait_cell (K : Dev nD × Option CI → ℕ) (c : Dev nD) (i : CI) (q : DmaSem sig) (hq : csem i = .dma q) (R : ℕ) (hR : dutiesOf (some i) R = {0})
    (l : List Key) (n : ℕ) (hn : lvOf (some (some i)) ≤ n) (hl : ∀ k ∈ l, n < k.1.val + 2)
    {sp sp' : Space} {sh : Shape} {src : Memref sig .tc sp sh .bf16} {dst : Memref sig .tc sp' sh .bf16} {hsrc : src.view.WordExact} {hdst : dst.view.WordExact}
    (hN : dst.view.dmaCredit = amountOf (some i) R) (k : PG F) (Q : PUnit → sProp 𝕄) :
    iprop(recs X W K ∗ cred (tallyAt (cell c (some i)) () (amountOf (some i) R)) ∗ ow c l ∗ atPos ER (cell c (some i)) R ∅ 0)
      ⊢ iprop(((ow c l ∗ atPos ER (cell c (some i)) (R + 1) ∅ 0 ∗ reached ER (cell c (some i)) (R + 1) ∗ payOf X W c (some i) R 0) -∗ WP c k Q)
          -∗ WP c (.op (.waitDma2 q src dst hsrc hdst) fun _ => k) Q) := by
  have hcell : cell c (some i) = ((c : Thread nD τ), SemLoc.dma q) := by show ((c : Thread nD τ), csem i) = _; rw [hq]
  have hex : 0 + dst.view.dmaCredit = (Rd X W).expect ((c : Thread nD τ), SemLoc.dma q) R := by
    rw [← hcell, expect_cell, hR, hN, Finset.card_singleton, one_mul, zero_add]
  have hmw := mayWait_L (F := F) c (.dma q) l n (by rw [← hq]; exact (congrArg lvOf (role_asem (some i))).trans_le hn) hl
  unfold ow
  iintro ⟨#HR, Hc, ⟨%w, HO⟩, Hat⟩ Hk
  iapply (Rounds.wp_wait_rest_token 𝒱₀ ER (Rd X W) (c : Thread nD τ) none (κ := K (c, some i))
      (wpE_waitDma2_eq 𝒱₀ (c : Thread nD τ) none Set.univ) (Set.mem_univ _) () (O := oweL c l) (W := w) (R := R) (m := 0) (T := ∅) hex) $$ [Hc HO Hat]
  · isplitr; · rw [← hcell]; iapply (recs_inv X W K c (some i)); iexact HR
    isplitl [Hc]; · rw [← hcell, hN]; iexact Hc
    isplitl [HO]; · iexact HO
    isplitr; · iapply hmw; iapply (recs_lev X W K); iexact HR
    rw [← hcell]; iexact Hat
  rw [← hcell]
  iintro ⟨HO, Hat, Hr, Hpay⟩
  iapply Hk
  isplitl [HO]; · iexists _; iexact HO
  isplitl [Hat]; · iexact Hat
  isplitl [Hr]; · iexact Hr
  iapply (Entails.of_eq (by rw [Finset.sdiff_empty, duties_cell, hR, bigSep_singleton, payload_cell] :
    bigSep ((Rd X W).duties (cell c (some i)) R \ ∅) (fun d => (Rd X W).payload (cell c (some i)) R d) = payOf X W c (some i) R 0)); iexact Hpay

/-- Both ends of the transfer of hop `h` waited for: the block sent comes back, the block received is there. -/
theorem wp_waits (K : Dev nD × Option CI → ℕ) (c : Dev nD) (h : Fin 6) (b : Fin 8) (d : Bool) (l : List Key) (hl : ∀ k ∈ l, h.val < k.1.val) (k : PG F) (Q : PUnit → sProp 𝕄) :
    iprop(recs X W K ∗ crS c (h, b, d) ∗ waitTok c (h, b, d) ∗ ow c l)
      ⊢ iprop(((waited c (h, b, d) ∗ snB X W c d h.castSucc b (srcq h) ∗ rcB X W c d h.succ b ∗ ow c l) -∗ WP c k Q)
          -∗ WP c (opWaitS d h b <| opWaitV d h b k) Q) := by
  unfold crS waitTok waited
  iintro ⟨#HR, Hcs, ⟨Has, Hav, Hcv⟩, HO⟩ Hk
  iapply (wp_wait_cell X W K c (.inl (h, b, d)) _ rfl 0 rfl l 0 (Nat.le_refl 0) (fun k hk => Nat.succ_pos _) (NB_sub d h.castSucc b) (opWaitV d h b k) Q) $$ [Hcs HO Has]
  · isplitr; · iexact HR
    isplitl [Hcs]; · iexact Hcs
    isplitl [HO]; · iexact HO
    iexact Has
  iintro ⟨HO, Has, -, Hs⟩
  iapply (wp_wait_cell X W K c (.inr (.inl (h, b, d))) _ rfl 0 rfl l (h.val + 2) (Nat.le_refl _) (fun k hk => Nat.add_lt_add_right (hl k hk) 2) (NB_sub d h.succ b) k Q) $$ [Hcv HO Hav]
  · isplitr; · iexact HR
    isplitl [Hcv]; · iexact Hcv
    isplitl [HO]; · iexact HO
    iexact Hav
  iintro ⟨HO, Hav, -, Hv⟩
  iapply Hk
  isplitl [Has Hav]; · isplitl [Has] <;> iassumption
  isplitl [Hs]; · iapply (Entails.of_eq (show payOf X W c (some (.inl (h, b, d))) 0 0 = snB X W c d h.castSucc b (srcq h) from rfl)); iexact Hs
  isplitl [Hv]; · iapply (Entails.of_eq (show payOf X W c (some (.inr (.inl (h, b, d)))) 0 0 = rcB X W c d h.succ b from rfl)); iexact Hv
  iexact HO

/-- A block loaded. -/
theorem wp_loadB (c : Dev nD) (d : Bool) (s : Fin 7) (b : Fin 8) (q : PosShare TreeShare) (f : Buf (Elt F) ((sub d s b).view.loc (c : Thread nD τ)))
    (k : Vec F S1x128x1024 .bf16 → PG F) (Q : PUnit → sProp 𝕄) :
    ((sub d s b).view.loc (c : Thread nD τ) ↦[(sub d s b).view.set]{q} f : sProp 𝕄)
      ⊢ iprop((((sub d s b).view.loc (c : Thread nD τ) ↦[(sub d s b).view.set]{q} f) -∗ WP c (k (((cM d).access (bR s b)).read (Elt F) f)) Q)
          -∗ WP c (opLoadB d s b k) Q) :=
  wp_load_rect 𝒱₀ (c : Thread nD τ) none Set.univ (m := cM d) (r := bR s b) (by rw [← bset_eq]; exact Finset.Subset.refl _)

/-- A block stored, at what is sent. -/
theorem wp_storeB (c : Dev nD) (d : Bool) (s : Fin 7) (b : Fin 8) (f : Buf (Elt F) ((sub d s b).view.loc (c : Thread nD τ)))
    (w : Vec F S1x128x1024 .bf16) (hw : w = blk X W d s.val b c) (k : PG F) (Q : PUnit → sProp 𝕄) :
    ((sub d s b).view.loc (c : Thread nD τ) ↦[(sub d s b).view.set]{fullShare} f : sProp 𝕄)
      ⊢ iprop((snB X W c d s b fullShare -∗ WP c k Q) -∗ WP c (opStoreB d s b w k) Q) := by
  have he : ((sub d s b).view.loc (c : Thread nD τ) ↦[(sub d s b).view.set]{fullShare} (((cM d).access (bR s b)).write (Elt F) f w Finset.univ) : sProp 𝕄)
      = snB X W c d s b fullShare := by
    unfold snB
    exact pointsTo_congr fun i hi => write_agree ((cM d).access (bR s b)) f (toC d (Snd X W d c)) w ((read_Snd X W d s b c).trans hw.symm) i
      ((Finset.ext_iff.mp (bset_eq d s b) i).mp hi)
  rw [← he]
  have hs : ((cM d).access (bR s b)).setOn Finset.univ ⊆ bset d s b := fun i hi => (Finset.ext_iff.mp (bset_eq d s b) i).mpr hi
  exact wp_store (k := fun _ => k) (Q := Q) (Ix := Unit) (Lvl := ℕ) 𝒱₀ (c : Thread nD τ) none Set.univ (m := cM d) (r := bR s b) (Mk := Finset.univ) hs

end Cert.RingProof

end
-- ==== Proof.Loops.lean ====
/-
# The loops

Each loop of the kernel by its step: the loop takes what every step needs and gives what every step leaves.
-/
module

public import proofs.«01_k».proof.Proof.Steps

@[expose] public section

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

open Idealize.ShloMosaic.Rounds

variable {F : FTy → Type} [FloatOps F]

local notation "𝕄" => MT nD τ sig Unit (Elt F) ℕ UU ℕ

variable (X : Dev nD → Vec F S4096x1024 .bf16) (W : Dev nD → Vec F S1024x2048 .bf16)

theorem big_insert {I : Type} [DecidableEq I] {s : Finset I} {i : I} (hi : i ∉ s) (Φ : I → sProp 𝕄) :
    bigSep (insert i s) Φ = iprop(Φ i ∗ bigSep s Φ) := BI.bigSep_insert hi
theorem big_union {I : Type} [DecidableEq I] {s t : Finset I} (h : Disjoint s t) (Φ : I → sProp 𝕄) :
    bigSep (s ∪ t) Φ = iprop(bigSep s Φ ∗ bigSep t Φ) := BI.bigSep_union h

/-- A loop over distinct blocks, by its step. `I` is what goes from step to step. -/
theorem wp_loop (c : Dev nD) (R : sProp 𝕄) [BI.Persistent R] (A B : Fin 8 × Bool → sProp 𝕄) (I : List (Fin 8 × Bool) → sProp 𝕄)
    (step : Fin 8 × Bool → PG F → PG F) (Q : PUnit → sProp 𝕄)
    (h : ∀ a l k, iprop(R ∗ A a ∗ I (a :: l)) ⊢ iprop(((B a ∗ I l) -∗ WP c k Q) -∗ WP c (step a k) Q))
    (l : List (Fin 8 × Bool)) (hl : l.Nodup) (k : PG F) :
    iprop(R ∗ bigSep l.toFinset A ∗ I l) ⊢ iprop(((bigSep l.toFinset B ∗ I []) -∗ WP c k Q) -∗ WP c (loop step l k) Q) := by
  induction l with
  | nil =>
    iintro ⟨-, -, HI⟩ Hk
    iapply Hk
    isplitr; · rw [List.toFinset_nil, bigSep_empty]; iempintro
    iexact HI
  | cons a l ih =>
    have ha : a ∉ l.toFinset := fun h' => (List.nodup_cons.mp hl).1 (List.mem_toFinset.mp h')
    rw [List.toFinset_cons, big_insert ha, big_insert ha]
    iintro ⟨#HR, ⟨Ha, HA⟩, HI⟩ Hk
    iapply (h a l (loop step l k)) $$ [Ha HI]
    · isplitr; · iexact HR
      isplitl [Ha] <;> iassumption
    iintro ⟨Hb, HI⟩
    iapply (ih (List.nodup_cons.mp hl).2) $$ [HA HI]
    · isplitr; · iexact HR
      isplitl [HA] <;> iassumption
    iintro ⟨HB, HI⟩
    iapply Hk
    isplitl [Hb HB]; · isplitl [Hb] <;> iassumption
    iexact HI

theorem bds_univ : bds.toFinset = Finset.univ := by decide
theorem bds_nodup : bds.Nodup := by decide

/-- The loop over all blocks. -/
theorem wp_loopAll (c : Dev nD) (R : sProp 𝕄) [BI.Persistent R] (A B : Fin 8 × Bool → sProp 𝕄) (I : List (Fin 8 × Bool) → sProp 𝕄)
    (step : Fin 8 × Bool → PG F → PG F) (Q : PUnit → sProp 𝕄)
    (h : ∀ a l k, iprop(R ∗ A a ∗ I (a :: l)) ⊢ iprop(((B a ∗ I l) -∗ WP c k Q) -∗ WP c (step a k) Q)) (k : PG F) :
    iprop(R ∗ bigSep Finset.univ A ∗ I bds) ⊢ iprop(((bigSep Finset.univ B ∗ I []) -∗ WP c k Q) -∗ WP c (loop step bds k) Q) := by
  rw [← bds_univ]; exact wp_loop c R A B I step Q h bds bds_nodup k

/-! ## What is loaded, shares -/

/-- `x` as fetched and the narrowed weights: loaded only. -/
def xw (c : Dev nD) : sProp 𝕄 := iprop((((c : Thread nD τ).loc cc0_stg0_0) ↦{fullShare} X c) ∗ (((c : Thread nD τ).loc cc0_scratch0) ↦{fullShare} w16 W c))

/-- What of a block its send leaves behind. -/
def keep (c : Dev nD) (h : Fin 6) (a : Fin 8 × Bool) : sProp 𝕄 := if h.val ≤ 2 then iprop(emp) else snB X W c a.2 h.castSucc a.1 fullShare.right

theorem split_keep (c : Dev nD) (h : Fin 6) (b : Fin 8) (d : Bool) :
    snB X W c d h.castSucc b fullShare ⊢ iprop(snB X W c d h.castSucc b (srcq h) ∗ keep X W c h (b, d)) := by
  unfold srcq keep
  by_cases hh : h.val ≤ 2
  · rw [if_pos hh, if_pos hh]
    iintro H; isplitl; · iexact H
    iempintro
  · rw [if_neg hh, if_neg hh]
    unfold snB
    exact (pointsTo_share (PosShare.mem_left_op_right fullShare)).1

theorem rcB_snB (c : Dev nD) (d : Bool) (s : Fin 7) (hs : 4 ≤ s.val) (b : Fin 8) : rcB X W c d s b = snB X W c d s b fullShare := by
  unfold rcB snB
  exact pointsTo_congr fun i hi => Rcv_eq_Snd X W d c s hs b i hi

/-! ## The first hop -/

theorem stepA_ok (K : Dev nD × Option CI → ℕ) (c : Dev nD) (rest : List Key) (Q : PUnit → sProp 𝕄) (a : Fin 8 × Bool) (l : List (Fin 8 × Bool)) (k : PG F) :
    iprop(recs X W K ∗ (sndTok c (0, a) ∗ anB c a.2 0 a.1) ∗ (xw X W c ∗ ow c ((a :: l).map (fun bd => ((0 : Fin 6), bd)) ++ rest)))
      ⊢ iprop(((crS c (0, a) ∗ (xw X W c ∗ ow c (l.map (fun bd => ((0 : Fin 6), bd)) ++ rest))) -∗ WP c k Q) -∗ WP c (stepA c a k) Q) := by
  obtain ⟨b, d⟩ := a
  unfold xw anB stepA
  iintro ⟨#HR, ⟨Ht, ⟨%f, Hb⟩⟩, ⟨Hx, Hw⟩, HO⟩ Hk
  iapply (wp_load_rect (Val := Elt F) 𝒱₀ (c : Thread nD τ) none Set.univ (m := xM) (r := xRA d b c) (S := Finset.univ) (f := X c) (Finset.subset_univ _)) $$ [Hx]; · iexact Hx
  iintro Hx
  iapply (wp_load_rect (Val := Elt F) 𝒱₀ (c : Thread nD τ) none Set.univ (m := w16M) (r := wR d) (S := Finset.univ) (f := w16 W c) (Finset.subset_univ _)) $$ [Hw]; · iexact Hw
  iintro Hw
  iapply (wp_loadB c d 0 b fullShare f _ Q) $$ [Hb]; · iexact Hb
  iintro Hb
  iapply (wp_storeB X W c d 0 b f _ rfl _ Q) $$ [Hb]; · iexact Hb
  iintro Hb
  iapply (wp_send_blk X W K c 0 b d (l.map (fun bd => ((0 : Fin 6), bd)) ++ rest) k Q) $$ [Ht Hb HO]
  · isplitr; · iexact HR
    isplitl [Hb]; · iapply (Entails.of_eq (show snB X W c d 0 b fullShare = snB X W c d (Fin.castSucc 0) b (srcq 0) from rfl)); iexact Hb
    isplitl [Ht]; · iexact Ht
    iexact HO
  iintro ⟨Hc, HO⟩
  iapply Hk
  isplitl [Hc]; · iexact Hc
  isplitl [Hx Hw]; · isplitl [Hx] <;> iassumption
  iexact HO

theorem hopA_ok (K : Dev nD × Option CI → ℕ) (c : Dev nD) (rest : List Key) (k : PG F) (Q : PUnit → sProp 𝕄) :
    iprop(recs X W K ∗ (bigSep Finset.univ fun a : Fin 8 × Bool => sndTok c (0, a)) ∗ (bigSep Finset.univ fun a : Fin 8 × Bool => anB c a.2 0 a.1) ∗ xw X W c ∗ ow c (hopK 0 ++ rest))
      ⊢ iprop((((bigSep Finset.univ fun a : Fin 8 × Bool => crS c (0, a)) ∗ xw X W c ∗ ow c rest) -∗ WP c k Q) -∗ WP c (loop (stepA c) bds k) Q) := by
  have h := wp_loopAll c (recs X W K) (fun a => iprop(sndTok c (0, a) ∗ anB c a.2 0 a.1)) (fun a => crS c (0, a))
    (fun l => iprop(xw X W c ∗ ow c (l.map (fun bd => ((0 : Fin 6), bd)) ++ rest))) (stepA c) Q (fun a l k => stepA_ok X W K c rest Q a l k) k
  rw [bigSep_sep'] at h
  refine BIBase.Entails.trans ?_ h
  iintro ⟨HR, H1, H2, H3, H4⟩
  isplitl [HR]; · iexact HR
  isplitl [H1 H2]; · isplitl [H1] <;> iassumption
  isplitl [H3]; · iexact H3
  iexact H4

/-! ## The accumulating hops -/

theorem stepB_ok (K : Dev nD × Option CI → ℕ) (c : Dev nD) (h' h : Fin 6) (hs : h.castSucc = h'.succ)
    (f : Fin 8 → FVec F S1024x1024 .f32 → Vec F S1x128x1024 .bf16 → FVec F S1x128x1024 .bf16) (p : Bool → FVec F S1024x1024 .f32)
    (hf : ∀ b d, f b (p d) (blk X W d h'.val b (frm d c)) = blk X W d h.val b c)
    (rest : List Key) (hrest : ∀ k ∈ rest, h'.val < k.1.val) (Q : PUnit → sProp 𝕄) (a : Fin 8 × Bool) (l : List (Fin 8 × Bool)) (k : PG F) :
    iprop(recs X W K ∗ (waitTok c (h', a) ∗ crS c (h', a) ∗ sndTok c (h, a)) ∗ ow c ((a :: l).map (fun bd => (h, bd)) ++ rest))
      ⊢ iprop((((waited c (h', a) ∗ snB X W c a.2 h'.castSucc a.1 (srcq h') ∗ crS c (h, a) ∗ keep X W c h a) ∗ ow c (l.map (fun bd => (h, bd)) ++ rest)) -∗ WP c k Q)
        -∗ WP c (stepB c h' h f p a k) Q) := by
  obtain ⟨b, d⟩ := a
  have hval : h.val = h'.val + 1 := congrArg Fin.val hs
  have hl : ∀ k ∈ (((b, d) :: l).map (fun bd => (h, bd)) ++ rest), h'.val < k.1.val := fun k hk => by
    rcases List.mem_append.mp hk with hk | hk
    · obtain ⟨x, _, rfl⟩ := List.mem_map.mp hk; show h'.val < h.val; omega
    · exact hrest k hk
  unfold stepB
  iintro ⟨#HR, ⟨Hw, Hc, Ht⟩, HO⟩ Hk
  iapply (wp_waits X W K c h' b d _ hl _ Q) $$ [Hw Hc HO]
  · isplitr; · iexact HR
    isplitl [Hc]; · iexact Hc
    isplitl [Hw]; · iexact Hw
    iexact HO
  iintro ⟨Hwd, Hs, Hr, HO⟩
  rw [← hs]
  unfold rcB
  iapply (wp_loadB c d h.castSucc b fullShare _ _ Q) $$ [Hr]; · iexact Hr
  iintro Hr
  iapply (wp_loadB c d h.castSucc b fullShare _ _ Q) $$ [Hr]; · iexact Hr
  iintro Hr
  iapply (wp_storeB X W c d h.castSucc b _ _ (by
    refine (congrArg (f b (p d)) (read_Rcv X W d h.castSucc b c)).trans ?_
    rw [show (h.castSucc : Fin 7).val - 1 = h'.val from by show h.val - 1 = _; omega]
    exact hf b d) _ Q) $$ [Hr]; · iexact Hr
  iintro Hb
  ihave Hb := (split_keep X W c h b d) $$ Hb
  icases Hb with ⟨Hb, Hkp⟩
  iapply (wp_send_blk X W K c h b d (l.map (fun bd => (h, bd)) ++ rest) k Q) $$ [Ht Hb HO]
  · isplitr; · iexact HR
    isplitl [Hb]; · iexact Hb
    isplitl [Ht]; · iexact Ht
    iexact HO
  iintro ⟨Hc, HO⟩
  iapply Hk
  isplitr [HO]
  · isplitl [Hwd]; · iexact Hwd
    isplitl [Hs]; · iexact Hs
    isplitl [Hc]; · iexact Hc
    iexact Hkp
  iexact HO

/-- What a hop's loop needs of the hop before (`h'`) and of its own, and what it leaves. -/
def hopIn (c : Dev nD) (h' h : Fin 6) : sProp 𝕄 :=
  iprop((bigSep Finset.univ fun a : Fin 8 × Bool => waitTok c (h', a)) ∗ (bigSep Finset.univ fun a : Fin 8 × Bool => crS c (h', a)) ∗ (bigSep Finset.univ fun a : Fin 8 × Bool => sndTok c (h, a)))
def hopOut (c : Dev nD) (h' h : Fin 6) : sProp 𝕄 :=
  iprop((bigSep Finset.univ fun a : Fin 8 × Bool => waited c (h', a)) ∗ (bigSep Finset.univ fun a : Fin 8 × Bool => snB X W c a.2 h'.castSucc a.1 (srcq h'))
    ∗ (bigSep Finset.univ fun a : Fin 8 × Bool => crS c (h, a)) ∗ (bigSep Finset.univ fun a : Fin 8 × Bool => keep X W c h a))

theorem hopB_ok (K : Dev nD × Option CI → ℕ) (c : Dev nD) (h' h : Fin 6) (hs : h.castSucc = h'.succ) (hp : Fin 4)
    (f : Fin 8 → FVec F S1024x1024 .f32 → Vec F S1x128x1024 .bf16 → FVec F S1x128x1024 .bf16)
    (hf : ∀ b d, f b (prod X W d hp c) (blk X W d h'.val b (frm d c)) = blk X W d h.val b c)
    (rest : List Key) (hrest : ∀ k ∈ rest, h'.val < k.1.val) (k : PG F) (Q : PUnit → sProp 𝕄) :
    iprop(recs X W K ∗ hopIn c h' h ∗ xw X W c ∗ ow c (hopK h ++ rest))
      ⊢ iprop(((hopOut X W c h' h ∗ xw X W c ∗ ow c rest) -∗ WP c k Q) -∗ WP c (hopB c h' h hp f k) Q) := by
  have H := wp_loopAll c (recs X W K) (fun a => iprop(waitTok c (h', a) ∗ crS c (h', a) ∗ sndTok c (h, a)))
    (fun a => iprop(waited c (h', a) ∗ snB X W c a.2 h'.castSucc a.1 (srcq h') ∗ crS c (h, a) ∗ keep X W c h a))
    (fun l => ow c (l.map (fun bd => (h, bd)) ++ rest))
    (stepB c h' h f (both (prod X W false hp c) (prod X W true hp c))) Q
    (fun a l k => stepB_ok X W K c h' h hs f _ (fun b d => by cases d <;> exact hf b _) rest hrest Q a l k) k
  rw [bigSep_sep', bigSep_sep', bigSep_sep', bigSep_sep', bigSep_sep'] at H
  unfold hopIn hopOut xw hopB stepP
  iintro ⟨#HR, Hin, ⟨Hx, Hw⟩, HO⟩ Hk
  iapply (wp_load_rect (Val := Elt F) 𝒱₀ (c : Thread nD τ) none Set.univ (m := xM) (r := xRP false hp c) (S := Finset.univ) (f := X c) (Finset.subset_univ _)) $$ [Hx]; · iexact Hx
  iintro Hx
  iapply (wp_load_rect (Val := Elt F) 𝒱₀ (c : Thread nD τ) none Set.univ (m := w16M) (r := wR false) (S := Finset.univ) (f := w16 W c) (Finset.subset_univ _)) $$ [Hw]; · iexact Hw
  iintro Hw
  iapply (wp_load_rect (Val := Elt F) 𝒱₀ (c : Thread nD τ) none Set.univ (m := xM) (r := xRP true hp c) (S := Finset.univ) (f := X c) (Finset.subset_univ _)) $$ [Hx]; · iexact Hx
  iintro Hx
  iapply (wp_load_rect (Val := Elt F) 𝒱₀ (c : Thread nD τ) none Set.univ (m := w16M) (r := wR true) (S := Finset.univ) (f := w16 W c) (Finset.subset_univ _)) $$ [Hw]; · iexact Hw
  iintro Hw
  iapply H $$ [Hin HO]
  · isplitr; · iexact HR
    isplitl [Hin]; · iexact Hin
    iexact HO
  iintro ⟨Hout, HO⟩
  iapply Hk
  isplitl [Hout]; · iexact Hout
  isplitl [Hx Hw]; · isplitl [Hx] <;> iassumption
  iexact HO

/-! ## The gathering hops -/

theorem stepC_ok (K : Dev nD × Option CI → ℕ) (c : Dev nD) (h' h : Fin 6) (hs : h.castSucc = h'.succ) (h4 : 4 ≤ h.val)
    (rest : List Key) (hrest : ∀ k ∈ rest, h'.val < k.1.val) (Q : PUnit → sProp 𝕄) (a : Fin 8 × Bool) (l : List (Fin 8 × Bool)) (k : PG F) :
    iprop(recs X W K ∗ (waitTok c (h', a) ∗ crS c (h', a) ∗ sndTok c (h, a)) ∗ ow c ((a :: l).map (fun bd => (h, bd)) ++ rest))
      ⊢ iprop((((waited c (h', a) ∗ snB X W c a.2 h'.castSucc a.1 (srcq h') ∗ crS c (h, a) ∗ keep X W c h a) ∗ ow c (l.map (fun bd => (h, bd)) ++ rest)) -∗ WP c k Q)
        -∗ WP c (stepC c h' h a k) Q) := by
  obtain ⟨b, d⟩ := a
  have hval : h.val = h'.val + 1 := congrArg Fin.val hs
  have hl : ∀ k ∈ (((b, d) :: l).map (fun bd => (h, bd)) ++ rest), h'.val < k.1.val := fun k hk => by
    rcases List.mem_append.mp hk with hk | hk
    · obtain ⟨x, _, rfl⟩ := List.mem_map.mp hk; show h'.val < h.val; omega
    · exact hrest k hk
  unfold stepC
  iintro ⟨#HR, ⟨Hw, Hc, Ht⟩, HO⟩ Hk
  iapply (wp_waits X W K c h' b d _ hl _ Q) $$ [Hw Hc HO]
  · isplitr; · iexact HR
    isplitl [Hc]; · iexact Hc
    isplitl [Hw]; · iexact Hw
    iexact HO
  iintro ⟨Hwd, Hs, Hr, HO⟩
  ihave Hr : snB X W c d h.castSucc b fullShare $$ [Hr]
  · iapply (Entails.of_eq (show rcB X W c d h'.succ b = snB X W c d h.castSucc b fullShare from by rw [← hs]; exact rcB_snB X W c d h.castSucc h4 b)); iexact Hr
  ihave Hb := (split_keep X W c h b d) $$ Hr
  icases Hb with ⟨Hb, Hkp⟩
  iapply (wp_send_blk X W K c h b d (l.map (fun bd => (h, bd)) ++ rest) k Q) $$ [Ht Hb HO]
  · isplitr; · iexact HR
    isplitl [Hb]; · iexact Hb
    isplitl [Ht]; · iexact Ht
    iexact HO
  iintro ⟨Hc, HO⟩
  iapply Hk
  isplitr [HO]
  · isplitl [Hwd]; · iexact Hwd
    isplitl [Hs]; · iexact Hs
    isplitl [Hc]; · iexact Hc
    iexact Hkp
  iexact HO

theorem hopC_ok (K : Dev nD × Option CI → ℕ) (c : Dev nD) (h' h : Fin 6) (hs : h.castSucc = h'.succ) (h4 : 4 ≤ h.val)
    (rest : List Key) (hrest : ∀ k ∈ rest, h'.val < k.1.val) (k : PG F) (Q : PUnit → sProp 𝕄) :
    iprop(recs X W K ∗ hopIn c h' h ∗ ow c (hopK h ++ rest))
      ⊢ iprop(((hopOut X W c h' h ∗ ow c rest) -∗ WP c k Q) -∗ WP c (loop (stepC c h' h) bds k) Q) := by
  have H := wp_loopAll c (recs X W K) (fun a => iprop(waitTok c (h', a) ∗ crS c (h', a) ∗ sndTok c (h, a)))
    (fun a => iprop(waited c (h', a) ∗ snB X W c a.2 h'.castSucc a.1 (srcq h') ∗ crS c (h, a) ∗ keep X W c h a))
    (fun l => ow c (l.map (fun bd => (h, bd)) ++ rest))
    (stepC c h' h) Q (fun a l k => stepC_ok X W K c h' h hs h4 rest hrest Q a l k) k
  rw [bigSep_sep', bigSep_sep', bigSep_sep', bigSep_sep', bigSep_sep'] at H
  exact H

/-! ## The copies to the result -/

theorem out_eq (d : Bool) (r : Fin 3) (c : Dev nD) (fd : Buf (Elt F) ((outM d r c).view.loc (c : Thread nD τ))) :
    ((outM d r c).view.loc (c : Thread nD τ) ↦[(outM d r c).view.set]{fullShare}
      ((outM d r c).view.write (Elt F) fd ((slot d (slotR r)).view.read (Elt F) (toC d (Snd X W d c))) Finset.univ) : sProp 𝕄) = goM X W c d r := by
  unfold goM
  exact pointsTo_congr fun i hi => write_agree (outM d r c).view fd (Gout X W) _ (read_out X W d r (slotR r) (slotR_val r) c) i hi
theorem outB_eq (d : Bool) (b : Fin 8) (c : Dev nD) (fd : Buf (Elt F) ((outB d b c).view.loc (c : Thread nD τ))) :
    ((outB d b c).view.loc (c : Thread nD τ) ↦[(outB d b c).view.set]{fullShare}
      ((outB d b c).view.write (Elt F) fd ((sub d 6 b).view.read (Elt F) (toC d (Snd X W d c))) Finset.univ) : sProp 𝕄) = goB X W c d b := by
  unfold goB
  exact pointsTo_congr fun i hi => write_agree (outB d b c).view fd (Gout X W) _ (read_outB X W d b c) i hi

theorem pay_out (c : Dev nD) (d : Bool) (r : Fin 3) : payOf X W c (some (.inr (.inr d))) r.val 0 = outPay X W c d r := dif_pos r.isLt
theorem pay_tail (c : Dev nD) (d : Bool) (i : Fin 8) : payOf X W c (some (.inr (.inr d))) 3 i = tailPay X W c d i := rfl
theorem duties_out (d : Bool) (r : Fin 3) : dutiesOf (some (.inr (.inr d))) r.val = {0} := if_pos r.isLt
theorem duties_tail (d : Bool) : dutiesOf (some (.inr (.inr d))) 3 = Finset.univ := rfl
theorem amount_out (d : Bool) (r : Fin 3) : amountOf (some (.inr (.inr d))) r.val = NS := if_pos r.isLt
theorem amount_tail (d : Bool) : amountOf (some (.inr (.inr d))) 3 = NB := rfl

/-- What a whole-slot copy needs besides the slot. -/
def outTok (c : Dev nD) (d : Bool) (r : Fin 3) : sProp 𝕄 := iprop(dutyTok ER (oCell c d) r.val 0 ∗ anM c d r)

theorem opOut_ok (K : Dev nD × Option CI → ℕ) (c : Dev nD) (d : Bool) (r : Fin 3) (k : PG F) (Q : PUnit → sProp 𝕄) :
    iprop(recs X W K ∗ reached ER (oCell c d) r.val ∗ snS X W c d (slotR r) fullShare.right ∗ outTok c d r)
      ⊢ iprop((cred (tallyAt (oCell c d) () NS) -∗ WP c k Q) -∗ WP c (opOut c d r (slotR r) k) Q) := by
  unfold outTok anM
  iintro ⟨#HR, #Hr, Hs, Ht, ⟨%fd, Hd⟩⟩ Hk
  unfold snS
  iapply (Rounds.wp_copy_pointsTo 𝒱₀ ER (Rd X W) (c : Thread nD τ) none (κ := K (c, some (.inr (.inr d)))) (sem := asem (some (.inr (.inr d))))
    (r := r.val) (d := 0) (fd := fd) (by rw [duties_cell, duties_out]; exact Finset.mem_singleton_self _)
    () NS (NS_out d r c) ((amount_cell X W c (some (.inr (.inr d))) r.val 0).trans (amount_out d r))
    (by rw [payload_cell, pay_out]; unfold outPay snS; exact sep_mono_left (Entails.of_eq (out_eq X W d r c fd)))) $$ [Hs Ht Hd]
  · isplitr; · iapply (recs_inv X W K c (some (.inr (.inr d)))); iexact HR
    isplitl [Hs]; · iexact Hs
    isplitl [Hd]; · iexact Hd
    isplitl [Ht]; · iexact Ht
    iexact Hr
  iexact Hk

theorem opOutWait_ok (K : Dev nD × Option CI → ℕ) (c : Dev nD) (d : Bool) (r : Fin 3) (l : List Key) (k : PG F) (Q : PUnit → sProp 𝕄) :
    iprop(recs X W K ∗ cred (tallyAt (oCell c d) () NS) ∗ ow c l ∗ atPos ER (oCell c d) r.val ∅ 0)
      ⊢ iprop(((ow c l ∗ atPos ER (oCell c d) (r.val + 1) ∅ 0 ∗ reached ER (oCell c d) (r.val + 1) ∗ outPay X W c d r) -∗ WP c k Q) -∗ WP c (opOutWait c d r (slotR r) k) Q) := by
  have h := wp_wait_cell X W K c (.inr (.inr d)) (sO d) rfl r.val (duties_out d r) l 0 (Nat.le_refl 0) (fun k _ => Nat.succ_pos _)
    (src := slot d (slotR r)) (dst := outM d r c) (hsrc := slot_word d (slotR r)) (hdst := outM_word d r c) ((NS_out d r c).trans (amount_out d r).symm) k Q
  rw [amount_out, pay_out] at h
  exact h

/-! ## The tail -/

def tailTok (c : Dev nD) (a : Fin 8 × Bool) : sProp 𝕄 := iprop(dutyTok ER (oCell c a.2) 3 a.1 ∗ anO c a.2 a.1)

theorem stepT_ok (K : Dev nD × Option CI → ℕ) (c : Dev nD) (Q : PUnit → sProp 𝕄) (a : Fin 8 × Bool) (k : PG F) :
    iprop((recs X W K ∗ reached ER (oCell c false) 3 ∗ reached ER (oCell c true) 3) ∗ (waitTok c (5, a) ∗ crS c (5, a) ∗ tailTok c a) ∗ ow c [])
      ⊢ iprop((((waited c (5, a) ∗ snB X W c a.2 (Fin.castSucc 5) a.1 (srcq 5) ∗ cred (tallyAt (oCell c a.2) () NB)) ∗ ow c []) -∗ WP c k Q)
        -∗ WP c (stepT c a k) Q) := by
  obtain ⟨b, d⟩ := a
  unfold stepT tailTok anO
  iintro ⟨⟨#HR, #Hr0, #Hr1⟩, ⟨Hw, Hc, Ht, ⟨%fd, Hd⟩⟩, HO⟩ Hk
  iapply (wp_waits X W K c 5 b d [] (fun k hk => absurd hk List.not_mem_nil) _ Q) $$ [Hw Hc HO]
  · isplitr; · iexact HR
    isplitl [Hc]; · iexact Hc
    isplitl [Hw]; · iexact Hw
    iexact HO
  iintro ⟨Hwd, Hs, Hr, HO⟩
  ihave #Hr3 : reached ER (oCell c d) 3 $$ []
  · cases d
    · iexact Hr0
    · iexact Hr1
  ihave Hr : ((sub d 6 b).view.loc (c : Thread nD τ) ↦[(sub d 6 b).view.set]{fullShare} toC d (Snd X W d c) : sProp 𝕄) $$ [Hr]
  · iapply (Entails.of_eq (show rcB X W c d (Fin.succ 5) b = ((sub d 6 b).view.loc (c : Thread nD τ) ↦[(sub d 6 b).view.set]{fullShare} toC d (Snd X W d c) : sProp 𝕄) from rcB_snB X W c d 6 (by decide) b)); iexact Hr
  iapply (Rounds.wp_copy_pointsTo 𝒱₀ ER (Rd X W) (c : Thread nD τ) none (κ := K (c, some (.inr (.inr d)))) (sem := asem (some (.inr (.inr d))))
    (r := 3) (d := b) (fd := fd) (by rw [duties_cell, duties_tail]; exact Finset.mem_univ _)
    () NB (NB_out d b c) ((amount_cell X W c (some (.inr (.inr d))) 3 b).trans (amount_tail d))
    (by rw [payload_cell, pay_tail]; unfold tailPay; exact sep_mono_left (Entails.of_eq (outB_eq X W d b c fd)))) $$ [Hr Ht Hd]
  · isplitr; · iapply (recs_inv X W K c (some (.inr (.inr d)))); iexact HR
    isplitl [Hr]; · iexact Hr
    isplitl [Hd]; · iexact Hd
    isplitl [Ht]; · iexact Ht
    iexact Hr3
  iintro Hco
  iapply Hk
  isplitr [HO]
  · isplitl [Hwd]; · iexact Hwd
    isplitl [Hs]; · iexact Hs
    iexact Hco
  iexact HO

def tailIn (c : Dev nD) : sProp 𝕄 :=
  iprop((bigSep Finset.univ fun a : Fin 8 × Bool => waitTok c (5, a)) ∗ (bigSep Finset.univ fun a : Fin 8 × Bool => crS c (5, a)) ∗ (bigSep Finset.univ fun a : Fin 8 × Bool => tailTok c a))
def tailOut (c : Dev nD) : sProp 𝕄 :=
  iprop((bigSep Finset.univ fun a : Fin 8 × Bool => waited c (5, a)) ∗ (bigSep Finset.univ fun a : Fin 8 × Bool => snB X W c a.2 (Fin.castSucc 5) a.1 (srcq 5))
    ∗ (bigSep Finset.univ fun a : Fin 8 × Bool => cred (tallyAt (oCell c a.2) () NB)))

theorem hopT_ok (K : Dev nD × Option CI → ℕ) (c : Dev nD) (k : PG F) (Q : PUnit → sProp 𝕄) :
    iprop((recs X W K ∗ reached ER (oCell c false) 3 ∗ reached ER (oCell c true) 3) ∗ tailIn c ∗ ow c [])
      ⊢ iprop(((tailOut X W c ∗ ow c []) -∗ WP c k Q) -∗ WP c (loop (stepT c) bds k) Q) := by
  have H := wp_loopAll c iprop(recs X W K ∗ reached ER (oCell c false) 3 ∗ reached ER (oCell c true) 3)
    (fun a => iprop(waitTok c (5, a) ∗ crS c (5, a) ∗ tailTok c a))
    (fun a => iprop(waited c (5, a) ∗ snB X W c a.2 (Fin.castSucc 5) a.1 (srcq 5) ∗ cred (tallyAt (oCell c a.2) () NB)))
    (fun l => ow c []) (stepT c) Q (fun a l k => stepT_ok X W K c Q a k) k
  rw [bigSep_sep', bigSep_sep', bigSep_sep', bigSep_sep'] at H
  exact H

/-- The store semaphore's position with `n` of its eight last waits to come. -/
def posW (c : Dev nD) (d : Bool) (n : ℕ) : sProp 𝕄 :=
  if n = 0 then iprop(atPos ER (oCell c d) (3 + 1) ∅ 0 ∗ bigSep Finset.univ (fun b => tailPay X W c d b))
  else iprop(∃ (T : Finset (Fin 8)) (m : ℕ), ⌜m + n * NB = 8 * NB⌝ ∗ atPos ER (oCell c d) 3 T m ∗ bigSep T (fun b => tailPay X W c d b))

theorem opTail_ok (K : Dev nD × Option CI → ℕ) (c : Dev nD) (d : Bool) (b : Fin 8) (n : ℕ) (k : PG F) (Q : PUnit → sProp 𝕄) :
    iprop(recs X W K ∗ cred (tallyAt (oCell c d) () NB) ∗ ow c [] ∗ posW X W c d (n + 1))
      ⊢ iprop(((ow c [] ∗ posW X W c d n) -∗ WP c k Q) -∗ WP c (stepW c (b, d) k) Q) := by
  have hmw := mayWait_L (F := F) c (asem (some (.inr (.inr d)))) [] 0 (by rw [role_asem]; exact Nat.le_refl 0) (fun k hk => absurd hk List.not_mem_nil)
  have hNB : (outB d b c).view.dmaCredit = NB := NB_out d b c
  unfold posW ow
  rw [if_neg (Nat.succ_ne_zero n)]
  iintro ⟨#HR, Hc, ⟨%w, HO⟩, ⟨%T, %m, %hm, Hat, Hp⟩⟩ Hk
  rcases Nat.eq_zero_or_pos n with rfl | hn
  · rw [if_pos rfl]
    have hex : m + (outB d b c).view.dmaCredit = (Rd X W).expect (oCell c d) 3 := by
      rw [expect_cell, duties_tail, amount_tail, hNB]; simpa using hm
    iapply (Rounds.wp_wait_rest_token 𝒱₀ ER (Rd X W) (c : Thread nD τ) none (κ := K (c, some (.inr (.inr d)))) (sm := asem (some (.inr (.inr d))))
      (wpE_waitDma2_eq 𝒱₀ (c : Thread nD τ) none Set.univ) (Set.mem_univ _) () (O := oweL c []) (W := w) (R := 3) (m := m) (T := T) hex) $$ [Hc HO Hat]
    · isplitr; · iapply (recs_inv X W K c (some (.inr (.inr d)))); iexact HR
      isplitl [Hc]; · rw [hNB]; iexact Hc
      isplitl [HO]; · iexact HO
      isplitr; · iapply hmw; iapply (recs_lev X W K); iexact HR
      iexact Hat
    iintro ⟨HO, Hat, -, Hpay⟩
    iapply Hk
    isplitl [HO]; · iexists _; iexact HO
    isplitl [Hat]; · iexact Hat
    ihave Hpay : bigSep (Finset.univ \ T) (fun b => tailPay X W c d b) $$ [Hpay]
    · iapply (Entails.of_eq (show bigSep ((Rd X W).duties (oCell c d) 3 \ T) (fun i => (Rd X W).payload (oCell c d) 3 i) = bigSep (Finset.univ \ T) (fun b => tailPay X W c d b) from by
        rw [duties_cell, duties_tail]; exact bigSep_congr fun i _ => (payload_cell X W c _ 3 i).trans (pay_tail X W c d i)))
      iexact Hpay
    iapply (Entails.of_eq (show iprop(bigSep T (fun b => tailPay X W c d b) ∗ bigSep (Finset.univ \ T) (fun b => tailPay X W c d b)) = bigSep Finset.univ (fun b => tailPay X W c d b) from by
      rw [← big_union Finset.disjoint_sdiff, Finset.union_sdiff_of_subset (Finset.subset_univ T)]))
    isplitl [Hp] <;> iassumption
  · rw [if_neg (Nat.pos_iff_ne_zero.mp hn)]
    iapply (Rounds.wp_wait 𝒱₀ ER (Rd X W) (c : Thread nD τ) none (κ := K (c, some (.inr (.inr d)))) (sm := asem (some (.inr (.inr d))))
      (wpE_waitDma2_eq 𝒱₀ (c : Thread nD τ) none Set.univ) (Set.mem_univ _) (O := oweL c []) (W := w) {(asem (some (.inr (.inr d))), ())} (R := 3) (m := m) (T := T)
      (cr := Finsupp.single () NB) ((Idealize.SL.Util.total_single _ _).trans hNB.symm) (image_single_subset _ () NB)) $$ [Hc HO Hat]
    · isplitr; · iapply (recs_inv X W K c (some (.inr (.inr d)))); iexact HR
      isplitl [Hc]; · iexact Hc
      isplitl [HO]; · iexact HO
      isplitr; · iapply hmw; iapply (recs_lev X W K); iexact HR
      iexact Hat
    iintro %S ⟨%hS, HO, Hat, Hpay⟩
    iapply Hk
    isplitl [HO]; · iexists _; iexact HO
    iexists S; iexists (m + (outB d b c).view.dmaCredit)
    isplitr; · ipureintro; rw [hNB, ← hm, Nat.succ_mul]; omega
    isplitl [Hat]; · iexact Hat
    ihave Hpay : bigSep (S \ T) (fun b => tailPay X W c d b) $$ [Hpay]
    · iapply (Entails.of_eq (show bigSep (S \ T) (fun i => (Rd X W).payload (oCell c d) 3 i) = bigSep (S \ T) (fun b => tailPay X W c d b) from
        bigSep_congr fun i _ => (payload_cell X W c _ 3 i).trans (pay_tail X W c d i)))
      iexact Hpay
    iapply (Entails.of_eq (show iprop(bigSep T (fun b => tailPay X W c d b) ∗ bigSep (S \ T) (fun b => tailPay X W c d b)) = bigSep S (fun b => tailPay X W c d b) from by
      rw [← big_union Finset.disjoint_sdiff, Finset.union_sdiff_of_subset hS.1]))
    isplitl [Hp] <;> iassumption

def cnt (d : Bool) (l : List (Fin 8 × Bool)) : ℕ := l.countP fun a => a.2 == d

theorem stepW_ok (K : Dev nD × Option CI → ℕ) (c : Dev nD) (Q : PUnit → sProp 𝕄) (a : Fin 8 × Bool) (l : List (Fin 8 × Bool)) (k : PG F) :
    iprop(recs X W K ∗ cred (tallyAt (oCell c a.2) () NB) ∗ (ow c [] ∗ posW X W c false (cnt false (a :: l)) ∗ posW X W c true (cnt true (a :: l))))
      ⊢ iprop(((emp ∗ (ow c [] ∗ posW X W c false (cnt false l) ∗ posW X W c true (cnt true l))) -∗ WP c k Q) -∗ WP c (stepW c a k) Q) := by
  obtain ⟨b, d⟩ := a
  cases d
  · rw [show cnt false ((b, false) :: l) = cnt false l + 1 from List.countP_cons_of_pos rfl, show cnt true ((b, false) :: l) = cnt true l from List.countP_cons_of_neg (show ¬ (false == true) = true by decide)]
    iintro ⟨HR, Hc, HO, Hf, Ht⟩ Hk
    iapply (opTail_ok X W K c false b _ k Q) $$ [HR Hc HO Hf]
    · isplitl [HR]; · iexact HR
      isplitl [Hc]; · iexact Hc
      isplitl [HO] <;> iassumption
    iintro ⟨HO, Hf⟩
    iapply Hk
    isplitr; · iempintro
    isplitl [HO]; · iexact HO
    isplitl [Hf] <;> iassumption
  · rw [show cnt true ((b, true) :: l) = cnt true l + 1 from List.countP_cons_of_pos rfl, show cnt false ((b, true) :: l) = cnt false l from List.countP_cons_of_neg (show ¬ (true == false) = true by decide)]
    iintro ⟨HR, Hc, HO, Hf, Ht⟩ Hk
    iapply (opTail_ok X W K c true b _ k Q) $$ [HR Hc HO Ht]
    · isplitl [HR]; · iexact HR
      isplitl [Hc]; · iexact Hc
      isplitl [HO] <;> iassumption
    iintro ⟨HO, Ht⟩
    iapply Hk
    isplitr; · iempintro
    isplitl [HO]; · iexact HO
    isplitl [Hf] <;> iassumption

/-- What the last waits leave of a stream. -/
def endW (c : Dev nD) (d : Bool) : sProp 𝕄 := iprop(atPos ER (oCell c d) (3 + 1) ∅ 0 ∗ bigSep Finset.univ (fun b => tailPay X W c d b))

theorem hopW_ok (K : Dev nD × Option CI → ℕ) (c : Dev nD) (k : PG F) (Q : PUnit → sProp 𝕄) :
    iprop(recs X W K ∗ (bigSep Finset.univ fun a : Fin 8 × Bool => cred (tallyAt (oCell c a.2) () NB)) ∗ ow c []
        ∗ atPos ER (oCell c false) 3 ∅ 0 ∗ atPos ER (oCell c true) 3 ∅ 0)
      ⊢ iprop(((ow c [] ∗ endW X W c false ∗ endW X W c true) -∗ WP c k Q) -∗ WP c (loop (stepW c) bds k) Q) := by
  have H := wp_loopAll c (recs X W K) (fun a => cred (tallyAt (oCell c a.2) () NB)) (fun _ => iprop(emp))
    (fun l => iprop(ow c [] ∗ posW X W c false (cnt false l) ∗ posW X W c true (cnt true l))) (stepW c) Q (fun a l k => stepW_ok X W K c Q a l k) k
  have hs (d : Bool) : atPos ER (oCell c d) 3 ∅ 0 ⊢ posW X W c d (cnt d bds) := by
    rw [show cnt d bds = 8 from by cases d <;> decide]
    unfold posW
    rw [if_neg (by decide)]
    iintro H
    iexists ∅; iexists 0
    isplitr; · ipureintro; rw [zero_add]
    isplitl; · iexact H
    rw [bigSep_empty]; iempintro
  iintro ⟨HR, Hc, HO, Hf, Ht⟩ Hk
  iapply H $$ [HR Hc HO Hf Ht]
  · isplitl [HR]; · iexact HR
    isplitl [Hc]; · iexact Hc
    isplitl [HO]; · iexact HO
    isplitl [Hf]
    · iapply (hs false); iexact Hf
    · iapply (hs true); iexact Ht
  iintro ⟨-, HO, Hf, Ht⟩
  iapply Hk
  isplitl [HO]; · iexact HO
  isplitl [Hf]
  · iapply (Entails.of_eq (show posW X W c false (cnt false []) = endW X W c false from if_pos rfl)); iexact Hf
  · iapply (Entails.of_eq (show posW X W c true (cnt true []) = endW X W c true from if_pos rfl)); iexact Ht

end Cert.RingProof

end
-- ==== Proof.Body.lean ====
/-
# The kernel's body after the barrier

The hops and the copies to the result in their order, on device `c`.
-/
module

public import proofs.«01_k».proof.Proof.Loops

@[expose] public section

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

open Idealize.ShloMosaic.Rounds

variable {F : FTy → Type} [FloatOps F]

local notation "𝕄" => MT nD τ sig Unit (Elt F) ℕ UU ℕ

variable (X : Dev nD → Vec F S4096x1024 .bf16) (W : Dev nD → Vec F S1024x2048 .bf16)

/-! ## Families over the transfers, hop by hop -/

theorem bool_split {Φ : Bool → sProp 𝕄} : bigSep Finset.univ Φ = iprop(Φ false ∗ Φ true) := by
  rw [bigSep_univ_eq_bigSepL [false, true] (by decide) (by decide)]; rfl

theorem hop_split (Φ : Key → sProp 𝕄) : bigSep Finset.univ Φ
    = iprop((bigSep Finset.univ fun a : Fin 8 × Bool => Φ (0, a)) ∗ (bigSep Finset.univ fun a : Fin 8 × Bool => Φ (1, a)) ∗ (bigSep Finset.univ fun a : Fin 8 × Bool => Φ (2, a))
      ∗ (bigSep Finset.univ fun a : Fin 8 × Bool => Φ (3, a)) ∗ (bigSep Finset.univ fun a : Fin 8 × Bool => Φ (4, a)) ∗ (bigSep Finset.univ fun a : Fin 8 × Bool => Φ (5, a))) := by
  rw [bigSep_univ_prod, bigSep_univ_eq_bigSepL [0, 1, 2, 3, 4, 5] (by decide) (by decide)]; rfl

theorem stream_split (Φ : Fin 8 × Bool → sProp 𝕄) : bigSep Finset.univ Φ
    = iprop((bigSep Finset.univ fun b : Fin 8 => Φ (b, false)) ∗ (bigSep Finset.univ fun b : Fin 8 => Φ (b, true))) := by
  rw [bigSep_univ_prod, ← bigSep_sep']
  exact bigSep_congr fun b _ => bool_split

/-- The blocks of a slot are the slot. -/
theorem slot_join (c : Dev nD) (d : Bool) (s : Fin 7) (q : PosShare TreeShare) : (bigSep Finset.univ fun b : Fin 8 => snB X W c d s b q) = snS X W c d s q := by
  have h := pointsTo_biUnion (nD := nD) (τ := τ) (sig := sig) (Ix := Unit) (Val := Elt F) (Name := ℕ) (U := UU) (Lvl := ℕ) (ℓ := (slot d s).view.loc (c : Thread nD τ)) (q := q) (f := toC d (Snd X W d c))
    Finset.univ (fun b => bset d s b) fun b _ b' _ hb => bset_disj d (s, b) (s, b') fun h => hb (congrArg Prod.snd h)
  exact h.symm.trans (congrArg (fun S => ((slot d s).view.loc (c : Thread nD τ) ↦[S]{q} toC d (Snd X W d c) : sProp 𝕄)) (slot_cover d s))

theorem keep_slots (c : Dev nD) (h : Fin 6) (r : Fin 3) (hs : h.castSucc = slotR r) :
    (bigSep Finset.univ fun a : Fin 8 × Bool => keep X W c h a) = iprop(snS X W c false (slotR r) fullShare.right ∗ snS X W c true (slotR r) fullShare.right) := by
  have h3 : ¬ h.val ≤ 2 := by have := congrArg Fin.val hs; rw [slotR_val] at this; have h' : h.val = 3 + r.val := this; omega
  rw [stream_split, ← slot_join, ← slot_join, ← hs]
  have hk (a : Fin 8 × Bool) : keep X W c h a = snB X W c a.2 h.castSucc a.1 fullShare.right := if_neg h3
  rw [bigSep_congr fun b _ => hk (b, false), bigSep_congr fun b _ => hk (b, true)]

/-! ## The copies to the result, both streams -/

def atO (c : Dev nD) (n : ℕ) : sProp 𝕄 := iprop(atPos ER (oCell c false) n ∅ 0 ∗ atPos ER (oCell c true) n ∅ 0)
def reO (c : Dev nD) (n : ℕ) : sProp 𝕄 := iprop(reached ER (oCell c false) n ∗ reached ER (oCell c true) n)
instance reO_persistent (c : Dev nD) (n : ℕ) : BI.Persistent (reO (F := F) c n) := by unfold reO; infer_instance
def crO (c : Dev nD) : sProp 𝕄 := iprop(cred (tallyAt (oCell c false) () NS) ∗ cred (tallyAt (oCell c true) () NS))
def tokO (c : Dev nD) (r : Fin 3) : sProp 𝕄 := iprop(outTok c false r ∗ outTok c true r)
def payO (c : Dev nD) (r : Fin 3) : sProp 𝕄 := iprop(outPay X W c false r ∗ outPay X W c true r)

theorem reO_zero (K : Dev nD × Option CI → ℕ) (c : Dev nD) : recs X W K ⊢ reO c 0 := by
  unfold reO
  iintro #HR
  isplitr
  · iapply (recs_reached X W K c (some (.inr (.inr false)))); iexact HR
  · iapply (recs_reached X W K c (some (.inr (.inr true)))); iexact HR

theorem outs_ok (K : Dev nD × Option CI → ℕ) (c : Dev nD) (r : Fin 3) (n : ℕ) (hn : r.val = n) (s : Fin 7) (h : Fin 6) (hs : s = slotR r) (hh : h.castSucc = slotR r) (k : PG F) (Q : PUnit → sProp 𝕄) :
    iprop(recs X W K ∗ reO c n ∗ (bigSep Finset.univ fun a : Fin 8 × Bool => keep X W c h a) ∗ tokO c r)
      ⊢ iprop((crO c -∗ WP c k Q) -∗ WP c (outs c r s k) Q) := by
  subst hs hn
  rw [keep_slots X W c h r hh]
  unfold reO tokO crO outs
  iintro ⟨#HR, ⟨#Hr0, #Hr1⟩, ⟨Hs0, Hs1⟩, ⟨Ht0, Ht1⟩⟩ Hk
  iapply (opOut_ok X W K c false r _ Q) $$ [Hs0 Ht0]
  · isplitr; · iexact HR
    isplitr; · iexact Hr0
    isplitl [Hs0] <;> iassumption
  iintro Hc0
  iapply (opOut_ok X W K c true r _ Q) $$ [Hs1 Ht1]
  · isplitr; · iexact HR
    isplitr; · iexact Hr1
    isplitl [Hs1] <;> iassumption
  iintro Hc1
  iapply Hk
  isplitl [Hc0] <;> iassumption

theorem outWaits_ok (K : Dev nD × Option CI → ℕ) (c : Dev nD) (r : Fin 3) (n n' : ℕ) (hn : r.val = n) (hn' : r.val + 1 = n') (s : Fin 7) (hs : s = slotR r) (l : List Key) (k : PG F) (Q : PUnit → sProp 𝕄) :
    iprop(recs X W K ∗ crO c ∗ ow c l ∗ atO c n)
      ⊢ iprop(((ow c l ∗ atO c n' ∗ reO c n' ∗ payO X W c r) -∗ WP c k Q) -∗ WP c (outWaits c r s k) Q) := by
  subst hs hn hn'
  unfold reO atO crO payO outWaits
  iintro ⟨#HR, ⟨Hc0, Hc1⟩, HO, ⟨Ha0, Ha1⟩⟩ Hk
  iapply (opOutWait_ok X W K c false r l _ Q) $$ [Hc0 HO Ha0]
  · isplitr; · iexact HR
    isplitl [Hc0]; · iexact Hc0
    isplitl [HO] <;> iassumption
  iintro ⟨HO, Ha0, Hr0, Hp0⟩
  iapply (opOutWait_ok X W K c true r l _ Q) $$ [Hc1 HO Ha1]
  · isplitr; · iexact HR
    isplitl [Hc1]; · iexact Hc1
    isplitl [HO] <;> iassumption
  iintro ⟨HO, Ha1, Hr1, Hp1⟩
  iapply Hk
  isplitl [HO]; · iexact HO
  isplitl [Ha0 Ha1]; · isplitl [Ha0] <;> iassumption
  isplitl [Hr0 Hr1]; · isplitl [Hr0] <;> iassumption
  isplitl [Hp0] <;> iassumption

/-! ## All of it -/

/-- What the body needs after the barrier. -/
def mainIn (c : Dev nD) : sProp 𝕄 :=
  iprop((bigSep Finset.univ fun k : Key => sndTok c k) ∗ (bigSep Finset.univ fun k : Key => waitTok c k) ∗ (bigSep Finset.univ fun a : Fin 8 × Bool => anB c a.2 0 a.1)
    ∗ atO c 0 ∗ tokO c 0 ∗ tokO c 1 ∗ tokO c 2 ∗ (bigSep Finset.univ fun a : Fin 8 × Bool => tailTok c a))
/-- What it leaves. -/
def mainOut (c : Dev nD) : sProp 𝕄 :=
  iprop((bigSep Finset.univ fun k : Key => waited c k) ∗ (bigSep Finset.univ fun k : Key => snB X W c k.2.2 k.1.castSucc k.2.1 (srcq k.1))
    ∗ payO X W c 0 ∗ payO X W c 1 ∗ payO X W c 2 ∗ endW X W c false ∗ endW X W c true)

theorem ow_all (c : Dev nD) : ow (F := F) c allK = ow c (hopK 0 ++ (hopK 1 ++ (hopK 2 ++ (hopK 3 ++ (hopK 4 ++ (hopK 5 ++ [])))))) := rfl

set_option maxHeartbeats 1000000 in
theorem main_ok (K : Dev nD × Option CI → ℕ) (c : Dev nD) (k : PG F) (Q : PUnit → sProp 𝕄) :
    iprop(recs X W K ∗ mainIn c ∗ xw X W c ∗ ow c allK)
      ⊢ iprop(((mainOut X W c ∗ xw X W c ∗ ow c []) -∗ WP c k Q) -∗ WP c (mainB c k) Q) := by
  rw [ow_all]
  unfold mainIn mainOut
  rw [hop_split (fun k : Key => sndTok c k), hop_split (fun k : Key => waitTok c k), hop_split (fun k : Key => waited c k), hop_split (fun k : Key => snB X W c k.2.2 k.1.castSucc k.2.1 (srcq k.1))]
  unfold mainB
  iintro ⟨#HR, ⟨⟨S0, S1, S2, S3, S4, S5⟩, ⟨V0, V1, V2, V3, V4, V5⟩, Hb, Hat, T0, T1, T2, TT⟩, Hxw, HO⟩ Hk
  iapply (hopA_ok X W K c (hopK 1 ++ (hopK 2 ++ (hopK 3 ++ (hopK 4 ++ (hopK 5 ++ []))))) _ Q) $$ [S0 Hb Hxw HO]
  · isplitr; · iexact HR
    isplitl [S0]; · iexact S0
    isplitl [Hb]; · iexact Hb
    isplitl [Hxw] <;> iassumption
  iintro ⟨C0, Hxw, HO⟩
  iapply (hopB_ok X W K c 0 1 rfl 1 payAcc (fun b d => rfl) (hopK 2 ++ (hopK 3 ++ (hopK 4 ++ (hopK 5 ++ [])))) (by decide +kernel) _ Q) $$ [V0 C0 S1 Hxw HO]
  · isplitr; · iexact HR
    isplitl [V0 C0 S1]
    · unfold hopIn
      isplitl [V0]; · iexact V0
      isplitl [C0] <;> iassumption
    isplitl [Hxw] <;> iassumption
  unfold hopOut
  iintro ⟨⟨D0, R0, C1, -⟩, Hxw, HO⟩
  iapply (hopB_ok X W K c 1 2 rfl 2 payAcc (fun b d => rfl) (hopK 3 ++ (hopK 4 ++ (hopK 5 ++ []))) (by decide +kernel) _ Q) $$ [V1 C1 S2 Hxw HO]
  · isplitr; · iexact HR
    isplitl [V1 C1 S2]
    · unfold hopIn
      isplitl [V1]; · iexact V1
      isplitl [C1] <;> iassumption
    isplitl [Hxw] <;> iassumption
  unfold hopOut
  iintro ⟨⟨D1, R1, C2, -⟩, Hxw, HO⟩
  iapply (hopB_ok X W K c 2 3 rfl 3 paySilu (fun b d => rfl) (hopK 4 ++ (hopK 5 ++ [])) (by decide +kernel) _ Q) $$ [V2 C2 S3 Hxw HO]
  · isplitr; · iexact HR
    isplitl [V2 C2 S3]
    · unfold hopIn
      isplitl [V2]; · iexact V2
      isplitl [C2] <;> iassumption
    isplitl [Hxw] <;> iassumption
  unfold hopOut
  iintro ⟨⟨D2, R2, C3, K3⟩, Hxw, HO⟩
  ihave #Q0 : reO (F := F) c 0 $$ []
  · iapply (reO_zero X W K c); iexact HR
  iapply (outs_ok X W K c 0 0 rfl 3 3 rfl rfl _ Q) $$ [K3 T0]
  · isplitr; · iexact HR
    isplitr; · iexact Q0
    isplitl [K3] <;> iassumption
  iintro O0
  iapply (hopC_ok X W K c 3 4 rfl (by decide) (hopK 5 ++ []) (by decide +kernel) _ Q) $$ [V3 C3 S4 HO]
  · isplitr; · iexact HR
    isplitl [V3 C3 S4]
    · unfold hopIn
      isplitl [V3]; · iexact V3
      isplitl [C3] <;> iassumption
    iexact HO
  unfold hopOut
  iintro ⟨⟨D3, R3, C4, K4⟩, HO⟩
  iapply (outWaits_ok X W K c 0 0 1 rfl rfl 3 rfl _ _ Q) $$ [O0 HO Hat]
  · isplitr; · iexact HR
    isplitl [O0]; · iexact O0
    isplitl [HO] <;> iassumption
  iintro ⟨HO, Hat, #Q1, P0⟩
  iapply (outs_ok X W K c 1 1 rfl 4 4 rfl rfl _ Q) $$ [K4 T1]
  · isplitr; · iexact HR
    isplitr; · iexact Q1
    isplitl [K4] <;> iassumption
  iintro O1
  iapply (hopC_ok X W K c 4 5 rfl (by decide) [] (by decide +kernel) _ Q) $$ [V4 C4 S5 HO]
  · isplitr; · iexact HR
    isplitl [V4 C4 S5]
    · unfold hopIn
      isplitl [V4]; · iexact V4
      isplitl [C4] <;> iassumption
    iexact HO
  unfold hopOut
  iintro ⟨⟨D4, R4, C5, K5⟩, HO⟩
  iapply (outWaits_ok X W K c 1 1 2 rfl rfl 4 rfl _ _ Q) $$ [O1 HO Hat]
  · isplitr; · iexact HR
    isplitl [O1]; · iexact O1
    isplitl [HO] <;> iassumption
  iintro ⟨HO, Hat, #Q2, P1⟩
  iapply (outs_ok X W K c 2 2 rfl 5 5 rfl rfl _ Q) $$ [K5 T2]
  · isplitr; · iexact HR
    isplitr; · iexact Q2
    isplitl [K5] <;> iassumption
  iintro O2
  iapply (outWaits_ok X W K c 2 2 3 rfl rfl 5 rfl _ _ Q) $$ [O2 HO Hat]
  · isplitr; · iexact HR
    isplitl [O2]; · iexact O2
    isplitl [HO] <;> iassumption
  iintro ⟨HO, Hat, #Q3, P2⟩
  iapply (hopT_ok X W K c _ Q) $$ [V5 C5 TT HO]
  · isplitr
    · isplitr; · iexact HR
      iapply (Entails.of_eq (show reO c 3 = iprop(reached ER (oCell c false) 3 ∗ reached ER (oCell c true) 3) from rfl)); iexact Q3
    isplitl [V5 C5 TT]
    · unfold tailIn
      isplitl [V5]; · iexact V5
      isplitl [C5] <;> iassumption
    iexact HO
  unfold tailOut
  iintro ⟨⟨D5, R5, CO⟩, HO⟩
  unfold atO
  icases Hat with ⟨Hat0, Hat1⟩
  iapply (hopW_ok X W K c _ Q) $$ [CO HO Hat0 Hat1]
  · isplitr; · iexact HR
    isplitl [CO]; · iexact CO
    isplitl [HO]; · iexact HO
    isplitl [Hat0] <;> iassumption
  iintro ⟨HO, E0, E1⟩
  iapply Hk
  isplitr [Hxw HO]
  · isplitl [D0 D1 D2 D3 D4 D5]
    · isplitl [D0]; · iexact D0
      isplitl [D1]; · iexact D1
      isplitl [D2]; · iexact D2
      isplitl [D3]; · iexact D3
      isplitl [D4] <;> iassumption
    isplitl [R0 R1 R2 R3 R4 R5]
    · isplitl [R0]; · iexact R0
      isplitl [R1]; · iexact R1
      isplitl [R2]; · iexact R2
      isplitl [R3]; · iexact R3
      isplitl [R4]; · iexact R4
      iexact R5
    isplitl [P0]; · iexact P0
    isplitl [P1]; · iexact P1
    isplitl [P2]; · iexact P2
    isplitl [E0] <;> iassumption
  isplitl [Hxw] <;> iassumption

end Cert.RingProof

end
-- ==== Proof.Head.lean ====
/-
# The whole body on one device

The buffers cut into the pieces the protocol hands around and put together again; the barrier; the cells closed at
the end.
-/
module

public import proofs.«01_k».proof.Proof.Body
public import Idealize.ShloMosaic.Lib.Ring

@[expose] public section

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Vec F S4096x1024 .bf16) (W : Dev nD → Vec F S1024x2048 .bf16)

/-! ## The communication buffers -/

/-- Stream `d`'s communication buffer on device `c`. -/
abbrev commL (c : Dev nD) (d : Bool) : Loc nD τ sig := (cM d).view.loc (c : Thread nD τ)
def commA (c : Dev nD) (d : Bool) : sProp 𝕄 := iprop(∃ f : Buf (Elt F) (commL c d), commL c d ↦{fullShare} f)

/-- Its blocks at given contents are the buffer at them. -/
theorem comm_blocks (c : Dev nD) (d : Bool) (f : Buf (Elt F) (commL c d)) :
    (commL c d ↦{fullShare} f : sProp 𝕄) = bigSep Finset.univ fun p : Fin 7 × Fin 8 => (commL c d ↦[bset d p.1 p.2]{fullShare} f : sProp 𝕄) := by
  have h := pointsTo_biUnion (nD := nD) (τ := τ) (sig := sig) (Ix := Unit) (Val := Elt F) (Name := ℕ) (U := UU) (Lvl := ℕ) (ℓ := commL c d) (q := fullShare) (f := f)
    Finset.univ (fun p : Fin 7 × Fin 8 => bset d p.1 p.2) fun p _ p' _ hp => bset_disj d p p' hp
  exact (congrArg (fun S => (commL c d ↦[S]{fullShare} f : sProp 𝕄)) (bset_cover d).symm).trans h

theorem comm_split (c : Dev nD) (d : Bool) : commA (F := F) c d ⊢ bigSep Finset.univ fun p : Fin 7 × Fin 8 => anB c d p.1 p.2 := by
  have h (f : Buf (Elt F) (commL c d)) : (commL c d ↦{fullShare} f : sProp 𝕄) ⊢ bigSep Finset.univ fun p : Fin 7 × Fin 8 => anB c d p.1 p.2 :=
    BIBase.Entails.trans (Entails.of_eq (comm_blocks c d f)) (bigSep_mono fun p _ => by
      show (commL c d ↦[bset d p.1 p.2]{fullShare} f : sProp 𝕄) ⊢ anB c d p.1 p.2
      unfold anB
      iintro H; iexists f; iexact H)
  unfold commA
  iintro ⟨%f, H⟩
  iapply (h f); iexact H

theorem fin7_split (Φ : Fin 7 → sProp 𝕄) : bigSep Finset.univ Φ = iprop(Φ 0 ∗ bigSep Finset.univ fun h : Fin 6 => Φ h.succ) := by
  rw [bigSep_univ_eq_bigSepL [0, 1, 2, 3, 4, 5, 6] (by decide) (by decide), bigSep_univ_eq_bigSepL [0, 1, 2, 3, 4, 5] (by decide) (by decide)]; rfl

/-- Slot 0 stays; slots 1 to 6 are what the device sending here receives the right to write. -/
theorem comm_give (c : Dev nD) (d : Bool) : commA (F := F) c d ⊢ iprop((bigSep Finset.univ fun b : Fin 8 => anB c d 0 b) ∗ barPay (frm d c) d) := by
  refine BIBase.Entails.trans (comm_split c d) (Entails.of_eq ?_)
  unfold barPay
  rw [tgt_frm, bigSep_univ_prod, fin7_split, ← bigSep_univ_prod (fun p : Fin 6 × Fin 8 => anB (F := F) c d p.1.succ p.2)]

theorem fin8_slots (Φ : Fin 7 → sProp 𝕄) : bigSep Finset.univ Φ = iprop(Φ 0 ∗ Φ 1 ∗ Φ 2 ∗ Φ 3 ∗ Φ 4 ∗ Φ 5 ∗ Φ 6) := by
  rw [bigSep_univ_eq_bigSepL [0, 1, 2, 3, 4, 5, 6] (by decide) (by decide)]; rfl

/-- All the slots at what is sent: the buffer. -/
theorem comm_join (c : Dev nD) (d : Bool) :
    iprop(snS X W c d 0 fullShare ∗ snS X W c d 1 fullShare ∗ snS X W c d 2 fullShare ∗ snS X W c d 3 fullShare ∗ snS X W c d 4 fullShare ∗ snS X W c d 5 fullShare ∗ snS X W c d 6 fullShare)
      ⊢ commA c d := by
  have h : iprop(snS X W c d 0 fullShare ∗ snS X W c d 1 fullShare ∗ snS X W c d 2 fullShare ∗ snS X W c d 3 fullShare ∗ snS X W c d 4 fullShare ∗ snS X W c d 5 fullShare ∗ snS X W c d 6 fullShare)
      = (commL c d ↦{fullShare} toC d (Snd X W d c) : sProp 𝕄) := by
    rw [← fin8_slots (fun s => snS X W c d s fullShare), comm_blocks, bigSep_univ_prod]
    exact bigSep_congr fun s _ => (slot_join X W c d s fullShare).symm
  rw [h]; unfold commA
  iintro H; iexists _; iexact H

theorem snS_halves (c : Dev nD) (d : Bool) (s : Fin 7) : iprop(snS X W c d s fullShare.left ∗ snS X W c d s fullShare.right) ⊢ snS X W c d s fullShare := by
  unfold snS
  exact (pointsTo_share (PosShare.mem_left_op_right fullShare)).2

/-- What the sends give back, slot by slot. -/
theorem sent_slots (c : Dev nD) : (bigSep Finset.univ fun k : Key => snB X W c k.2.2 k.1.castSucc k.2.1 (srcq k.1))
    = iprop((snS X W c false 0 fullShare ∗ snS X W c true 0 fullShare) ∗ (snS X W c false 1 fullShare ∗ snS X W c true 1 fullShare) ∗ (snS X W c false 2 fullShare ∗ snS X W c true 2 fullShare)
      ∗ (snS X W c false 3 fullShare.left ∗ snS X W c true 3 fullShare.left) ∗ (snS X W c false 4 fullShare.left ∗ snS X W c true 4 fullShare.left) ∗ (snS X W c false 5 fullShare.left ∗ snS X W c true 5 fullShare.left)) := by
  rw [hop_split (fun k : Key => snB X W c k.2.2 k.1.castSucc k.2.1 (srcq k.1))]
  have h (h : Fin 6) (q : PosShare TreeShare) (s : Fin 7) (hq : srcq h = q) (hs : h.castSucc = s) :
      (bigSep Finset.univ fun a : Fin 8 × Bool => snB X W c a.2 h.castSucc a.1 (srcq h)) = iprop(snS X W c false s q ∗ snS X W c true s q) := by
    subst hq hs
    rw [stream_split, ← slot_join, ← slot_join]
  rw [← h 0 fullShare 0 rfl rfl, ← h 1 fullShare 1 rfl rfl, ← h 2 fullShare 2 rfl rfl, ← h 3 fullShare.left 3 rfl rfl, ← h 4 fullShare.left 4 rfl rfl, ← h 5 fullShare.left 5 rfl rfl]

/-! ## The result -/

abbrev outL (c : Dev nD) : Loc nD τ sig := (c : Thread nD τ).loc main_v1

theorem out_pieces (c : Dev nD) (f : Buf (Elt F) (outL c)) :
    (outL c ↦{fullShare} f : sProp 𝕄) = bigSep Finset.univ fun p : OIx => (outL c ↦[oset c p]{fullShare} f : sProp 𝕄) := by
  have h := pointsTo_biUnion (nD := nD) (τ := τ) (sig := sig) (Ix := Unit) (Val := Elt F) (Name := ℕ) (U := UU) (Lvl := ℕ) (ℓ := outL c) (q := fullShare) (f := f)
    Finset.univ (fun p : OIx => oset c p) fun p _ p' _ hp => oset_disj c p p' hp
  exact (congrArg (fun S => (outL c ↦[S]{fullShare} f : sProp 𝕄)) (oset_cover c).symm).trans h

theorem oix_split (Φ : OIx → sProp 𝕄) : bigSep Finset.univ Φ
    = iprop(((bigSep Finset.univ fun r : Fin 3 => Φ (false, .inl r)) ∗ (bigSep Finset.univ fun b : Fin 8 => Φ (false, .inr b)))
      ∗ ((bigSep Finset.univ fun r : Fin 3 => Φ (true, .inl r)) ∗ (bigSep Finset.univ fun b : Fin 8 => Φ (true, .inr b)))) := by
  rw [bigSep_univ_prod, bool_split, bigSep_univ_sum, bigSep_univ_sum]; rfl
theorem fin3_split (Φ : Fin 3 → sProp 𝕄) : bigSep Finset.univ Φ = iprop(Φ 0 ∗ Φ 1 ∗ Φ 2) := by
  rw [bigSep_univ_eq_bigSepL [0, 1, 2] (by decide) (by decide)]; rfl

theorem out_split (c : Dev nD) (f : Buf (Elt F) (outL c)) :
    (outL c ↦{fullShare} f : sProp 𝕄) ⊢ iprop(((anM c false 0 ∗ anM c false 1 ∗ anM c false 2) ∗ (bigSep Finset.univ fun b : Fin 8 => anO c false b))
      ∗ ((anM c true 0 ∗ anM c true 1 ∗ anM c true 2) ∗ (bigSep Finset.univ fun b : Fin 8 => anO c true b))) := by
  have hM (d : Bool) (r : Fin 3) : (outL c ↦[oset c (d, .inl r)]{fullShare} f : sProp 𝕄) ⊢ anM c d r := by
    unfold anM; iintro H; iexists f; iexact H
  have hO (d : Bool) (b : Fin 8) : (outL c ↦[oset c (d, .inr b)]{fullShare} f : sProp 𝕄) ⊢ anO c d b := by
    unfold anO; iintro H; iexists f; iexact H
  rw [out_pieces, oix_split, ← fin3_split (fun r => anM c false r), ← fin3_split (fun r => anM c true r)]
  exact sep_mono (sep_mono (bigSep_mono fun r _ => hM _ r) (bigSep_mono fun b _ => hO _ b)) (sep_mono (bigSep_mono fun r _ => hM _ r) (bigSep_mono fun b _ => hO _ b))

theorem out_join (c : Dev nD) :
    iprop(((goM X W c false 0 ∗ goM X W c false 1 ∗ goM X W c false 2) ∗ (bigSep Finset.univ fun b : Fin 8 => goB X W c false b))
      ∗ ((goM X W c true 0 ∗ goM X W c true 1 ∗ goM X W c true 2) ∗ (bigSep Finset.univ fun b : Fin 8 => goB X W c true b)))
      ⊢ (outL c ↦{fullShare} Gout X W : sProp 𝕄) := by
  rw [out_pieces, oix_split, ← fin3_split (fun r => goM X W c false r), ← fin3_split (fun r => goM X W c true r)]
  exact BI.Entails.refl _

/-! ## The barrier -/

theorem dev1_eq (c : Dev nD) : (⟨k0_dev1 c, k0_dev1_lt c⟩ : Dev nD) = tgt true c := by revert c; decide +kernel
theorem dev2_eq (c : Dev nD) : (⟨k0_dev2 c, k0_dev2_lt c⟩ : Dev nD) = tgt false c := by revert c; decide +kernel

def barTok (c : Dev nD) : sProp 𝕄 := iprop(dutyTok ER (barCell (tgt true c)) 0 0 ∗ dutyTok ER (barCell (tgt false c)) 0 1)

theorem hz2 : (![0, 0] : Fin 2 → Nat) = fun _ => 0 := funext fun a => by fin_cases a <;> rfl

theorem bar_rest (c : Dev nD) : bigSep ((Rd X W).duties (barCell c) 0 \ ∅) (fun i => (Rd X W).payload (barCell c) 0 i) = iprop(barPay c false ∗ barPay c true) := by
  rw [Finset.sdiff_empty, duties_cell, bigSep_congr fun i _ => payload_cell X W c none 0 i,
    bigSep_eq_bigSepL_of_eq [0, 1] (show dutiesOf none 0 = _ by decide) (by decide)]
  rfl

set_option maxHeartbeats 1000000 in
theorem head_ok (K : Dev nD × Option CI → ℕ) (c : Dev nD) (w : Waits sig Unit) (k : PG F) (Q : PUnit → sProp 𝕄) :
    iprop(recs X W K ∗ barTok c ∗ barPay (tgt true c) false ∗ barPay (tgt false c) true ∗ atPos ER (barCell c) 0 ∅ 0 ∗ cred (tallyAt (barCell c) () 2)
        ∗ owes (c : Thread nD τ) (O₀ c) w ∗ (((c : Thread nD τ).loc cc0_stg0_0) ↦{fullShare} X c) ∗ (((c : Thread nD τ).loc cc0_stg1_0) ↦{fullShare} W c)
        ∗ (∃ f : Buf (Elt F) ((c : Thread nD τ).loc cc0_scratch0), ((c : Thread nD τ).loc cc0_scratch0) ↦{fullShare} f))
      ⊢ iprop(((ow c allK ∗ atPos ER (barCell c) (0 + 1) ∅ 0 ∗ (barPay c false ∗ barPay c true) ∗ (((c : Thread nD τ).loc cc0_stg1_0) ↦{fullShare} W c) ∗ xw X W c) -∗ WP c k Q)
          -∗ WP c (headB c k) Q) := by
  unfold headB barTok xw ow O₀ O₁
  rw [dev1_eq, dev2_eq]
  simp only [semSignalWord, semWaitWord, Prog.lift, Prog.bind_op, Prog.bind_ret, Prog.pure_eq_ret]
  iintro ⟨#HR, ⟨Ht1, Ht2⟩, Hp1, Hp2, Hat, Hc, HO, Hx, Hw, ⟨%f0, Hs⟩⟩ Hk
  iapply (Rounds.wp_signal 𝒱₀ ER (Rd X W) (c : Thread nD τ) none (dst := (tgt true c : Thread nD τ)) (κ := K (tgt true c, none)) (sem := barS) (r := 0)
      (d := 0) ((Finset.ext_iff.mp (duties_cell X W (tgt true c) none 0) 0).mpr (by decide)) ((amount_cell X W (tgt true c) none 0 0).trans (by decide)) () (oweL c allK + tallyAt (barCell (tgt false c)) () 1) rfl)
    $$ [HO Ht1 Hp1]
  · isplitr; · iapply (recs_inv X W K (tgt true c) none); iexact HR
    isplitl [HO]; · iexact HO
    isplitl [Ht1]; · iexact Ht1
    isplitl [Hp1]
    · iapply (Entails.of_eq (show barPay (tgt true c) false = (Rd X W).payload ((tgt true c : Thread nD τ), SemLoc.reg barS) 0 0 from (payload_cell X W (tgt true c) none 0 0).symm)); iexact Hp1
    iapply (recs_reached X W K (tgt true c) none); iexact HR
  iintro HO
  iapply (Rounds.wp_signal 𝒱₀ ER (Rd X W) (c : Thread nD τ) none (dst := (tgt false c : Thread nD τ)) (κ := K (tgt false c, none)) (sem := barS) (r := 0)
      (d := 1) ((Finset.ext_iff.mp (duties_cell X W (tgt false c) none 0) 1).mpr (by decide)) ((amount_cell X W (tgt false c) none 0 1).trans (by decide)) () (oweL c allK) rfl)
    $$ [HO Ht2 Hp2]
  · isplitr; · iapply (recs_inv X W K (tgt false c) none); iexact HR
    isplitl [HO]; · iexact HO
    isplitl [Ht2]; · iexact Ht2
    isplitl [Hp2]
    · iapply (Entails.of_eq (show barPay (tgt false c) true = (Rd X W).payload ((tgt false c : Thread nD τ), SemLoc.reg barS) 0 1 from (payload_cell X W (tgt false c) none 0 1).symm)); iexact Hp2
    iapply (recs_reached X W K (tgt false c) none); iexact HR
  iintro HO
  iapply (wp_load 𝒱₀ (c : Thread nD τ) none Set.univ (m := wM) (Finset.subset_univ _)) $$ Hw; iintro Hw
  iapply (wp_load 𝒱₀ (c : Thread nD τ) none Set.univ (m := w16M) (Finset.subset_univ _)) $$ Hs; iintro Hs
  iapply (wp_store 𝒱₀ (c : Thread nD τ) none Set.univ (m := w16M) (r := wAll) (Mk := Finset.univ) (Finset.subset_univ _)) $$ Hs; iintro Hs
  have hmw := mayWait_L (F := F) c (.reg barS) allK 1 (Nat.le_refl 1) (fun k hk => Nat.lt_of_lt_of_le (by decide) (Nat.le_add_left 2 k.1.val))
  iapply (Rounds.wp_wait_rest_token 𝒱₀ ER (Rd X W) (c : Thread nD τ) none (κ := K (c, none))
      (wpE_semWait_eq 𝒱₀ (c : Thread nD τ) none Set.univ) (Set.mem_univ _) () (O := oweL c allK) (W := w) (R := 0) (m := 0) (T := ∅)
      ((show 0 + (2#32).toNat = 2 from rfl).trans (expect_cell X W c none 0).symm)) $$ [Hc HO Hat]
  · isplitr; · iapply (recs_inv X W K c none); iexact HR
    isplitl [Hc]; · iexact Hc
    isplitl [HO]; · iexact HO
    isplitr; · iapply hmw; iapply (recs_lev X W K); iexact HR
    iexact Hat
  iintro ⟨HO, Hat, -, Hpay⟩
  iapply Hk
  isplitl [HO]; · iexists _; iexact HO
  isplitl [Hat]; · iexact Hat
  isplitl [Hpay]; · iapply (Entails.of_eq (bar_rest X W c)); iexact Hpay
  isplitl [Hw]; · iexact Hw
  isplitl [Hx]; · iexact Hx
  have hs : (w16M.access wAll).write (Elt F) f0 (k0_pay1 (wM.view.readAt (Elt F) wAll.toLoadRect (W c))) Finset.univ = w16 W c :=
    Eq.trans (Memref.write_access_unit_zero_univ (Elt F) cc0_scratch0 hz2 _ f0 _) (congrArg k0_pay1 (Memref.readAt_unit_zero (Elt F) cc0_stg1_0 hz2 _ (W c)))
  iapply (Entails.of_eq (congrArg (fun f => (((c : Thread nD τ).loc cc0_scratch0) ↦{fullShare} f : sProp 𝕄)) hs)); iexact Hs

end Cert.RingProof

end
-- ==== Proof.Whole.lean ====
/-
# From what a device starts with to what it ends with
-/
module

public import proofs.«01_k».proof.Proof.Head

@[expose] public section

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Vec F S4096x1024 .bf16) (W : Dev nD → Vec F S1024x2048 .bf16)

/-! ## Families over the cells -/

theorem ci_split (Φ : CI → sProp 𝕄) : bigSep Finset.univ Φ
    = iprop((bigSep Finset.univ fun k : Key => Φ (.inl k)) ∗ (bigSep Finset.univ fun k : Key => Φ (.inr (.inl k))) ∗ Φ (.inr (.inr false)) ∗ Φ (.inr (.inr true))) := by
  rw [bigSep_univ_sum, bigSep_univ_sum, bool_split]; rfl

theorem sep_swap1 (A B : sProp 𝕄) : iprop(A ∗ B) ⊢ iprop(B ∗ A) := by
  iintro ⟨H1, H2⟩; isplitl [H2]; (· iexact H2); iexact H1
theorem sep_swap (A B : sProp 𝕄) : iprop(A ∗ B) = iprop(B ∗ A) := BI.equiv_iff.mp ⟨sep_swap1 A B, sep_swap1 B A⟩

theorem opt_split (Φ : Option CI → sProp 𝕄) : bigSep Finset.univ Φ = iprop(Φ none ∗ bigSep Finset.univ fun i : CI => Φ (some i)) := by
  rw [bigSep_univ_equiv (Equiv.optionEquivSumPUnit.{0, 0} CI).symm, bigSep_univ_sum]
  have h : (bigSep Finset.univ fun b : PUnit => Φ ((Equiv.optionEquivSumPUnit.{0, 0} CI).symm (.inr b)) : sProp 𝕄) = Φ none := by
    rw [bigSep_univ_eq_bigSepL [PUnit.unit] (by decide) (by decide)]; rfl
  rw [h]
  exact sep_swap _ _

theorem key_streams (Φ : Fin 6 → Fin 8 → Bool → sProp 𝕄) : (bigSep Finset.univ fun k : Key => Φ k.1 k.2.1 k.2.2)
    = iprop((bigSep Finset.univ fun p : Fin 6 × Fin 8 => Φ p.1 p.2 false) ∗ (bigSep Finset.univ fun p : Fin 6 × Fin 8 => Φ p.1 p.2 true)) := by
  rw [bigSep_univ_prod, bigSep_congr fun h _ => stream_split (fun a : Fin 8 × Bool => Φ h a.1 a.2), bigSep_sep', bigSep_univ_prod, bigSep_univ_prod]

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  BIBase.Entails.trans (sep_mono_left (BI.bigSep_of_persistent S R)) (by rw [← bigSep_sep']; exact bigSep_mono h)

/-! ## What a device starts with and ends with -/

def oTok (c : Dev nD) (d : Bool) : sProp 𝕄 :=
  iprop((bigSep Finset.univ fun r : Fin 3 => dutyTok ER (oCell c d) r.val 0) ∗ (bigSep Finset.univ fun b : Fin 8 => dutyTok ER (oCell c d) 3 b))
def payToks (c : Dev nD) : sProp 𝕄 :=
  iprop(barTok c ∗ (bigSep Finset.univ fun k : Key => dutyTok ER (sCell c k) 0 0) ∗ (bigSep Finset.univ fun k : Key => dutyTok ER (vCell (tgt k.2.2 c) k) 0 0)
    ∗ oTok c false ∗ oTok c true)
/-- Its positions and the tokens of what it does for others' cells. -/
def lin (c : Dev nD) : sProp 𝕄 := iprop((bigSep Finset.univ fun o : Option CI => atPos ER (cell c o) 0 ∅ 0) ∗ payToks c)
def creds (c : Dev nD) : sProp 𝕄 := iprop(cred (tallyAt (barCell c) () 2) ∗ (bigSep Finset.univ fun k : Key => cred (tallyAt (vCell c k) () NB)))
def bufs (c : Dev nD) : sProp 𝕄 :=
  iprop((∃ f : Buf (Elt F) ((c : Thread nD τ).loc cc0_scratch0), ((c : Thread nD τ).loc cc0_scratch0) ↦{fullShare} f) ∗ commA c false ∗ commA c true)
def semsC (c : Dev nD) : sProp 𝕄 := bigSep Finset.univ fun i : CI => semVal (cell c (some i)) 0
def fin (c : Dev nD) : sProp 𝕄 :=
  iprop((outL c ↦{fullShare} Gout X W) ∗ bufs c ∗ semsC c ∗ semVal (barCell c) 0 ∗ ow c []
    ∗ (((c : Thread nD τ).loc cc0_stg0_0) ↦{fullShare} X c) ∗ (((c : Thread nD τ).loc cc0_stg1_0) ↦{fullShare} W c))

/-! ## The cells closed -/

theorem duties_late (o : Option CI) (r : ℕ) (h : 4 ≤ r) : dutiesOf o r = ∅ := by
  rcases o with _ | (k | k | d)
  · exact if_neg (by omega)
  · exact if_neg (by omega)
  · exact if_neg (by omega)
  · show (if r < 3 then {0} else if r = 3 then Finset.univ else ∅) = (∅ : Finset (Fin 8))
    rw [if_neg (by omega), if_neg (by omega)]
theorem duties_one (o : Option CI) (h : ∀ d, o ≠ some (.inr (.inr d))) (r : ℕ) (hr : 0 + 1 ≤ r) : dutiesOf o r = ∅ := by
  rcases o with _ | (k | k | d)
  · exact if_neg (by omega)
  · exact if_neg (by omega)
  · exact if_neg (by omega)
  · exact absurd rfl (h d)

theorem close_cell (K : Dev nD × Option CI → ℕ) (c : Dev nD) (o : Option CI) (R : ℕ) (h : ∀ r, R ≤ r → dutiesOf o r = ∅) :
    iprop(recs X W K ∗ atPos ER (cell c o) R ∅ 0) ⊢ |={Set.univ}=> semVal (cell c o) 0 := by
  iintro ⟨#HR, H⟩
  iapply (Rounds.cell_close ER (Rd X W) (Set.mem_univ (K (c, o))) (fun h => h) (R := R) (fun r hr => (duties_cell X W c o r).trans (h r hr)))
  isplitr; · iapply (recs_inv X W K c o); iexact HR
  iexact H

theorem close_keys (K : Dev nD × Option CI → ℕ) (c : Dev nD) :
    iprop(recs X W K ∗ bigSep Finset.univ fun k : Key => waited c k)
      ⊢ |={Set.univ}=> iprop((bigSep Finset.univ fun k : Key => semVal (sCell c k) 0) ∗ (bigSep Finset.univ fun k : Key => semVal (vCell c k) 0)) := by
  rw [← bigSep_sep']
  refine BIBase.Entails.trans (bigSep_with_persistent (Ψ := fun k : Key => iprop(|={Set.univ}=> (semVal (sCell c k) 0 ∗ semVal (vCell c k) 0))) fun k _ => ?_) (bigSep_fupd _ _)
  unfold waited
  iintro ⟨#HR, Hs, Hv⟩
  imod (close_cell X W K c (some (.inl k)) (0 + 1) (duties_one _ fun d h => by cases h)) $$ [Hs] with Hs
  · isplitr; · iexact HR
    iexact Hs
  imod (close_cell X W K c (some (.inr (.inl k))) (0 + 1) (duties_one _ fun d h => by cases h)) $$ [Hv] with Hv
  · isplitr; · iexact HR
    iexact Hv
  imodintro
  isplitl [Hs] <;> iassumption

/-! ## The body's start -/

theorem main_in (c : Dev nD) :
    iprop(((bigSep Finset.univ fun k : Key => dutyTok ER (sCell c k) 0 0) ∗ (bigSep Finset.univ fun k : Key => dutyTok ER (vCell (tgt k.2.2 c) k) 0 0) ∗ barPay c false ∗ barPay c true)
        ∗ ((bigSep Finset.univ fun k : Key => atPos ER (sCell c k) 0 ∅ 0) ∗ (bigSep Finset.univ fun k : Key => atPos ER (vCell c k) 0 ∅ 0) ∗ (bigSep Finset.univ fun k : Key => cred (tallyAt (vCell c k) () NB)))
        ∗ ((bigSep Finset.univ fun b : Fin 8 => anB c false 0 b) ∗ (bigSep Finset.univ fun b : Fin 8 => anB c true 0 b))
        ∗ (atPos ER (oCell c false) 0 ∅ 0 ∗ atPos ER (oCell c true) 0 ∅ 0) ∗ (oTok c false ∗ oTok c true) ∗ (∃ f : Buf (Elt F) (outL c), outL c ↦{fullShare} f))
      ⊢ mainIn c := by
  unfold mainIn sndTok waitTok atO tokO outTok tailTok oTok
  rw [bigSep_sep', bigSep_sep', bigSep_sep', bigSep_sep', bigSep_sep',
    stream_split (fun a : Fin 8 × Bool => anB c a.2 0 a.1), stream_split (fun a : Fin 8 × Bool => dutyTok ER (oCell c a.2) 3 a.1), stream_split (fun a : Fin 8 × Bool => anO c a.2 a.1),
    key_streams (fun h b d => anB (tgt d c) d h.succ b), fin3_split, fin3_split]
  unfold barPay
  iintro ⟨⟨H1, H2, H3, H4⟩, ⟨P1, P2, P3⟩, ⟨A1, A2⟩, Hat, ⟨⟨⟨T00, T01, T02⟩, TT0⟩, ⟨⟨T10, T11, T12⟩, TT1⟩⟩, ⟨%f, Ho⟩⟩
  ihave Ho := (out_split c f) $$ Ho
  icases Ho with ⟨⟨⟨M00, M01, M02⟩, MT0⟩, ⟨⟨M10, M11, M12⟩, MT1⟩⟩
  isplitl [H1 H2 H3 H4]
  · isplitl [H1]; · iexact H1
    isplitl [H2]; · iexact H2
    isplitl [H3] <;> iassumption
  isplitl [P1 P2 P3]
  · isplitl [P1]; · iexact P1
    isplitl [P2] <;> iassumption
  isplitl [A1 A2]
  · isplitl [A1] <;> iassumption
  isplitl [Hat]; · iexact Hat
  isplitl [T00 T10 M00 M10]
  · isplitl [T00 M00]
    · isplitl [T00] <;> iassumption
    isplitl [T10] <;> iassumption
  isplitl [T01 T11 M01 M11]
  · isplitl [T01 M01]
    · isplitl [T01] <;> iassumption
    isplitl [T11] <;> iassumption
  isplitl [T02 T12 M02 M12]
  · isplitl [T02 M02]
    · isplitl [T02] <;> iassumption
    isplitl [T12] <;> iassumption
  isplitl [TT0 TT1]
  · isplitl [TT0] <;> iassumption
  isplitl [MT0] <;> iassumption

/-! ## The body's end -/

theorem tail_slot (c : Dev nD) (d : Bool) : (bigSep Finset.univ fun b : Fin 8 => tailPay X W c d b)
    = iprop((bigSep Finset.univ fun b : Fin 8 => goB X W c d b) ∗ snS X W c d 6 fullShare) := by
  unfold tailPay
  rw [bigSep_sep', slot_join]

theorem main_end (c : Dev nD) : mainOut X W c
    ⊢ iprop((bigSep Finset.univ fun k : Key => waited c k) ∗ (atPos ER (oCell c false) (3 + 1) ∅ 0 ∗ atPos ER (oCell c true) (3 + 1) ∅ 0)
      ∗ (outL c ↦{fullShare} Gout X W) ∗ commA c false ∗ commA c true) := by
  unfold mainOut payO outPay endW
  rw [sent_slots, tail_slot, tail_slot]
  iintro ⟨Hw, ⟨⟨A0, B0⟩, ⟨A1, B1⟩, ⟨A2, B2⟩, ⟨A3, B3⟩, ⟨A4, B4⟩, ⟨A5, B5⟩⟩, ⟨⟨G00, C0⟩, ⟨G10, D0⟩⟩, ⟨⟨G01, C1⟩, ⟨G11, D1⟩⟩, ⟨⟨G02, C2⟩, ⟨G12, D2⟩⟩, ⟨E0, T0, A6⟩, ⟨E1, T1, B6⟩⟩
  isplitl [Hw]; · iexact Hw
  isplitl [E0 E1]; · isplitl [E0] <;> iassumption
  isplitl [G00 G01 G02 G10 G11 G12 T0 T1]
  · iapply (out_join X W c)
    isplitl [G00 G01 G02 T0]
    · isplitl [G00 G01 G02]
      · isplitl [G00]; · iexact G00
        isplitl [G01] <;> iassumption
      iexact T0
    isplitl [G10 G11 G12]
    · isplitl [G10]; · iexact G10
      isplitl [G11] <;> iassumption
    iexact T1
  isplitl [A0 A1 A2 A3 A4 A5 A6 C0 C1 C2]
  · iapply (comm_join X W c false)
    isplitl [A0]; · iexact A0
    isplitl [A1]; · iexact A1
    isplitl [A2]; · iexact A2
    isplitl [A3 C0]; · iapply (snS_halves X W c false 3); isplitl [A3]; (· iexact A3); iexact C0
    isplitl [A4 C1]; · iapply (snS_halves X W c false 4); isplitl [A4]; (· iexact A4); iexact C1
    isplitl [A5 C2]; · iapply (snS_halves X W c false 5); isplitl [A5]; (· iexact A5); iexact C2
    iexact A6
  iapply (comm_join X W c true)
  isplitl [B0]; · iexact B0
  isplitl [B1]; · iexact B1
  isplitl [B2]; · iexact B2
  isplitl [B3 D0]; · iapply (snS_halves X W c true 3); isplitl [B3]; (· iexact B3); iexact D0
  isplitl [B4 D1]; · iapply (snS_halves X W c true 4); isplitl [B4]; (· iexact B4); iexact D1
  isplitl [B5 D2]; · iapply (snS_halves X W c true 5); isplitl [B5]; (· iexact B5); iexact D2
  iexact B6

/-! ## All of it -/

set_option maxHeartbeats 1000000 in
theorem body_ok (K : Dev nD × Option CI → ℕ) (c : Dev nD) (w : Waits sig Unit) (Q : PUnit → sProp 𝕄) :
    iprop(recs X W K ∗ lin c ∗ creds c ∗ (∃ f : Buf (Elt F) (outL c), outL c ↦{fullShare} f) ∗ bufs c ∗ owes (c : Thread nD τ) (O₀ c) w
        ∗ (((c : Thread nD τ).loc cc0_stg0_0) ↦{fullShare} X c) ∗ (((c : Thread nD τ).loc cc0_stg1_0) ↦{fullShare} W c))
      ⊢ iprop((fin X W c -∗ Q ⟨⟩) -∗ WP c body Q) := by
  have hd : WP c (headB c <| mainB c <| .ret ⟨⟩) Q = WP c (.op .deviceId fun c => headB c <| mainB c <| .ret ⟨⟩) Q := by
    simp only [wp_deviceId]
  unfold lin payToks creds bufs body
  rw [opt_split (fun o : Option CI => (atPos ER (cell c o) 0 ∅ 0 : sProp 𝕄)), ci_split (fun i : CI => (atPos ER (cell c (some i)) 0 ∅ 0 : sProp 𝕄))]
  iintro ⟨#HR, ⟨⟨HatB, HatS, HatV, HatO0, HatO1⟩, Hbt, Hts, Htv, Hot⟩, ⟨HcB, HcV⟩, Hout, ⟨Hs0, Hc0, Hc1⟩, HO, Hx, Hw⟩ Hk
  iapply (Entails.of_eq hd)
  ihave Hc0 := (comm_give c false) $$ Hc0
  ihave Hc1 := (comm_give c true) $$ Hc1
  icases Hc0 with ⟨Hb0, Hp0⟩
  icases Hc1 with ⟨Hb1, Hp1⟩
  iapply (head_ok X W K c w _ Q) $$ [Hbt Hp0 Hp1 HatB HcB HO Hx Hw Hs0]
  · isplitr; · iexact HR
    isplitl [Hbt]; · iexact Hbt
    isplitl [Hp0]; · iapply (Entails.of_eq (show barPay (frm false c) false = barPay (tgt true c) false from rfl)); iexact Hp0
    isplitl [Hp1]; · iapply (Entails.of_eq (show barPay (frm true c) true = barPay (tgt false c) true from rfl)); iexact Hp1
    isplitl [HatB]; · iexact HatB
    isplitl [HcB]; · iexact HcB
    isplitl [HO]; · iexact HO
    isplitl [Hx]; · iexact Hx
    isplitl [Hw]; · iexact Hw
    iexact Hs0
  iintro ⟨HO, HatB, ⟨Hn0, Hn1⟩, Hw, Hxw⟩
  ihave Hin := (main_in (F := F) c) $$ [Hts Htv Hn0 Hn1 HatS HatV HcV Hb0 Hb1 HatO0 HatO1 Hot Hout]
  · isplitl [Hts Htv Hn0 Hn1]
    · isplitl [Hts]; · iexact Hts
      isplitl [Htv]; · iexact Htv
      isplitl [Hn0] <;> iassumption
    isplitl [HatS HatV HcV]
    · isplitl [HatS]; · iexact HatS
      isplitl [HatV] <;> iassumption
    isplitl [Hb0 Hb1]; · isplitl [Hb0] <;> iassumption
    isplitl [HatO0 HatO1]; · isplitl [HatO0] <;> iassumption
    isplitl [Hot] <;> iassumption
  iapply (main_ok X W K c _ Q) $$ [Hin Hxw HO]
  · isplitr; · iexact HR
    isplitl [Hin]; · iexact Hin
    isplitl [Hxw] <;> iassumption
  iintro ⟨Hm, Hxw, HO⟩
  ihave Hm := (main_end X W c) $$ Hm
  icases Hm with ⟨Hwt, ⟨HatO0, HatO1⟩, Hout, Hc0, Hc1⟩
  unfold xw
  icases Hxw with ⟨Hx, Hs0⟩
  iapply (Entails.of_eq (wp_ret (Q := Q) ..).symm)
  imod (close_keys X W K c) $$ [Hwt] with ⟨HzS, HzV⟩
  · isplitr; · iexact HR
    iexact Hwt
  imod (close_cell X W K c none (0 + 1) (duties_one _ fun d h => by cases h)) $$ [HatB] with HzB
  · isplitr; · iexact HR
    iexact HatB
  imod (close_cell X W K c (some (.inr (.inr false))) (3 + 1) (duties_late _)) $$ [HatO0] with HzO0
  · isplitr; · iexact HR
    iexact HatO0
  imod (close_cell X W K c (some (.inr (.inr true))) (3 + 1) (duties_late _)) $$ [HatO1] with HzO1
  · isplitr; · iexact HR
    iexact HatO1
  imodintro
  iapply Hk
  unfold fin bufs semsC
  isplitl [Hout]; · iexact Hout
  isplitl [Hs0 Hc0 Hc1]
  · isplitl [Hs0]; · iexists _; iexact Hs0
    isplitl [Hc0] <;> iassumption
  isplitl [HzS HzV HzO0 HzO1]
  · iapply (Entails.of_eq (ci_split (fun i : CI => (semVal (cell c (some i)) 0 : sProp 𝕄))).symm)
    isplitl [HzS]; · iexact HzS
    isplitl [HzV]; · iexact HzV
    isplitl [HzO0] <;> iassumption
  isplitl [HzB]; · iexact HzB
  isplitl [HO]; · iexact HO
  isplitl [Hx] <;> iassumption

end Cert.RingProof

end
-- ==== Proof.Launch.lean ====
/-
# The launch

The cells and duty tokens made and dealt around the ring; the launch credit; what is owed at the start.
-/
module

public import proofs.«01_k».proof.Proof.Whole

@[expose] public section

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Vec F S4096x1024 .bf16) (W : Dev nD → Vec F S1024x2048 .bf16)

/-! ## The semaphores -/

theorem csem_inj : Function.Injective csem := fun i i' h => by
  have := congrArg role h
  have h' : some (some i) = some (some i') := (role_asem (some i)).symm.trans (this.trans (role_asem (some i')))
  exact Option.some.inj (Option.some.inj h')
theorem csem_scoped (i : CI) : (csem i).isScoped .tc = true := by
  rcases i with k | k | d
  · revert k; decide +kernel
  · revert k; decide +kernel
  · revert d; decide +kernel
theorem stage_role : ∀ (w : Fin 2) (s : Fin (spec0 w).nbuf), role (.dma ((spec0 w).sem s)) = none := by decide +kernel
theorem ownSemFacts : Pipeline.OwnSemFacts cfg0.spec csem :=
  ⟨csem_scoped, csem_inj, fun i w s h => by
    have := (congrArg role h).symm.trans (role_asem (some i))
    exact absurd ((stage_role w s).symm.trans this) (by simp)⟩

/-! ## Cells and tokens -/

abbrev kcell (ck : Dev nD × Option CI) : GSem nD τ sig := cell ck.1 ck.2
theorem kcell_injective : Function.Injective kcell := fun a b h => Prod.ext (cell_inj h).1 (cell_inj h).2
def ringCells : Finset (GSem nD τ sig) := Finset.univ.map ⟨kcell, kcell_injective⟩

/-- The duties of a device's own cells: the barrier's two, each transfer's two, the store semaphores'. -/
abbrev TI : Type := Bool ⊕ Key ⊕ Key ⊕ OIx
def tO : TI → Option CI
  | .inl _ => none
  | .inr (.inl k) => some (.inl k)
  | .inr (.inr (.inl k)) => some (.inr (.inl k))
  | .inr (.inr (.inr p)) => some (.inr (.inr p.1))
def tR : TI → ℕ
  | .inr (.inr (.inr (_, .inl r))) => r.val
  | .inr (.inr (.inr (_, .inr _))) => 3
  | _ => 0
def tD : TI → Fin 8
  | .inl d => dn d
  | .inr (.inr (.inr (_, .inr b))) => b
  | _ => 0
theorem dn_inj : ∀ d d' : Bool, dn d = dn d' → d = d' := by decide
theorem t_inj (t t' : TI) (ho : tO t = tO t') (hr : tR t = tR t') (hd : tD t = tD t') : t = t' := by
  rcases t with d | k | k | ⟨d, r | b⟩ <;> rcases t' with d' | k' | k' | ⟨d', r' | b'⟩ <;> first | (exfalso; revert ho; simp [tO]; done) | skip
  · exact congrArg _ (dn_inj d d' hd)
  · simp [tO] at ho; subst ho; rfl
  · simp [tO] at ho; subst ho; rfl
  · simp [tO] at ho; subst ho; rw [show r = r' from Fin.ext hr]
  · exact absurd hr (Nat.ne_of_lt r.isLt)
  · exact absurd hr.symm (Nat.ne_of_lt r'.isLt)
  · simp [tO] at ho; subst ho; rw [show b = b' from hd]

abbrev tokOf (ct : Dev nD × TI) : GSem nD τ sig × ℕ × Fin 8 := (cell ct.1 (tO ct.2), tR ct.2, tD ct.2)
theorem tokOf_injective : Function.Injective tokOf := fun a b h => by
  have h1 := cell_inj (congrArg Prod.fst h)
  exact Prod.ext h1.1 (t_inj _ _ h1.2 (congrArg (fun x => x.2.1) h) (congrArg (fun x => x.2.2) h))
def ringToks : Finset (GSem nD τ sig × ℕ × Fin 8) := Finset.univ.map ⟨tokOf, tokOf_injective⟩

def u₀ : UU := (initOf (Pipeline.cells cfgs cellOf_inj) (Pipeline.launchToks cfgs cellOf_inj), initOf ringCells ringToks)

/-- The tokens of device `c`'s own cells. -/
def toks (c : Dev nD) : sProp 𝕄 := bigSep Finset.univ fun t : TI => dutyTok ER (cell c (tO t)) (tR t) (tD t)
def G (c : Dev nD) : sProp 𝕄 :=
  iprop((bigSep Finset.univ fun o : Option CI => roundState ER (Rd X W) (cell c o) 0)
    ∗ (bigSep Finset.univ fun o : Option CI => iprop(atPos ER (cell c o) 0 ∅ 0 ∗ reached ER (cell c o) 0)) ∗ toks c)
/-- What every device has when its body starts. -/
def G' (c : Dev nD) : sProp 𝕄 := iprop(∃ K : Dev nD × Option CI → ℕ, (bigSep Finset.univ fun ck : Dev nD × Option CI => cellInv ER (Rd X W) (K ck) (cell ck.1 ck.2))
  ∗ (bigSep Finset.univ fun ck : Dev nD × Option CI => reached ER (cell ck.1 ck.2) 0) ∗ lin c)

theorem fund_ring : BI.own (ER (initOf ringCells ringToks)) ⊢ (|==> bigSep Finset.univ (G X W) : sProp 𝕄) := by
  have hX (Φ : GSem nD τ sig → sProp 𝕄) : bigSep ringCells Φ = bigSep Finset.univ fun c : Dev nD => bigSep Finset.univ fun o : Option CI => Φ (cell c o) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]; rfl
  iintro HX
  imod (Rounds.fund ER (Rd X W) ringCells ringToks) $$ HX with ⟨Hst, Hr, Hat, Htok⟩
  imodintro
  ihave Hst' := (Entails.of_eq (hX fun g => roundState ER (Rd X W) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem unscopedSems0_eq (c : Dev nD) : (unscopedSems0 c : sProp 𝕄) = semVal (barCell c) 0 := by
  unfold unscopedSems0; rw [bigSep_eq_bigSepL_of_eq [SemLoc.reg barS] (by decide +kernel) (by decide)]; rfl

theorem core_alloc (c : Dev nD) :
    iprop(Pipeline.ownSems0 (Ix := Unit) (Name := ℕ) (U := UU) (Lvl := ℕ) (Val := Elt F) (τ := τ) csem c ∗ unscopedSems0 c ∗ G X W c)
      ⊢ |={Set.univ}=> iprop((bigSep Finset.univ fun o => iprop(∃ κ : ℕ, cellInv ER (Rd X W) κ (cell c o)))
          ∗ (bigSep Finset.univ fun o => iprop(atPos ER (cell c o) 0 ∅ 0 ∗ reached ER (cell c o) 0)) ∗ toks c) := by
  unfold G
  rw [unscopedSems0_eq]
  iintro ⟨Hos, Hus, Hst, Hat, Htok⟩
  ihave Hv : (bigSep Finset.univ fun o : Option CI => (semVal (cell c o) 0 : sProp 𝕄)) $$ [Hos Hus]
  · iapply (Entails.of_eq (opt_split (fun o : Option CI => (semVal (cell c o) 0 : sProp 𝕄))).symm)
    isplitl [Hus]; · iexact Hus
    iapply (Entails.of_eq (show (Pipeline.ownSems0 (Ix := Unit) (Name := ℕ) (U := UU) (Lvl := ℕ) (Val := Elt F) (τ := τ) csem c : sProp 𝕄)
      = bigSep Finset.univ fun i : CI => semVal (cell c (some i)) 0 from rfl)); iexact Hos
  imod (show iprop((bigSep Finset.univ fun o : Option CI => semVal (cell c o) 0) ∗ bigSep Finset.univ fun o : Option CI => roundState ER (Rd X W) (cell c o) 0)
      ⊢ (|={Set.univ}=> bigSep Finset.univ fun o => iprop(∃ κ : ℕ, cellInv ER (Rd X W) κ (cell c o)) : sProp 𝕄) from by
        rw [← bigSep_sep']
        exact BIBase.Entails.trans (bigSep_mono fun o _ => BIBase.Entails.trans (Rounds.body_intro ER (Rd X W) (cell c o)) inv_alloc) (bigSep_fupd _ _)) $$ [Hv Hst] with Hinv
  · isplitl [Hv] <;> iassumption
  imodintro
  isplitl [Hinv]; · iexact Hinv
  isplitl [Hat]; · iexact Hat
  iexact Htok

/-! ## The tokens dealt around -/

def ringE (d : Bool) : Dev nD ≃ Dev nD := ⟨tgt d, frm d, frm_tgt d, tgt_frm d⟩
def keyE : Dev nD × Key ≃ Dev nD × Key :=
  ⟨fun p => (tgt p.2.2.2 p.1, p.2), fun p => (frm p.2.2.2 p.1, p.2), fun p => Prod.ext (frm_tgt _ _) rfl, fun p => Prod.ext (tgt_frm _ _) rfl⟩

theorem toks_split (c : Dev nD) : toks (F := F) c
    = iprop((dutyTok ER (barCell c) 0 0 ∗ dutyTok ER (barCell c) 0 1) ∗ (bigSep Finset.univ fun k : Key => dutyTok ER (sCell c k) 0 0)
      ∗ (bigSep Finset.univ fun k : Key => dutyTok ER (vCell c k) 0 0) ∗ oTok c false ∗ oTok c true) := by
  unfold toks oTok
  rw [bigSep_univ_sum, bigSep_univ_sum, bigSep_univ_sum, bool_split, oix_split]; rfl

theorem deal_recv : (bigSep Finset.univ fun c : Dev nD => bigSep Finset.univ fun k : Key => (dutyTok ER (vCell c k) 0 0 : sProp 𝕄))
    = bigSep Finset.univ fun c : Dev nD => bigSep Finset.univ fun k : Key => dutyTok ER (vCell (tgt k.2.2 c) k) 0 0 := by
  rw [← bigSep_univ_prod (fun p : Dev nD × Key => (dutyTok ER (vCell p.1 p.2) 0 0 : sProp 𝕄)), bigSep_univ_equiv keyE,
    ← bigSep_univ_prod (fun p : Dev nD × Key => (dutyTok ER (vCell (tgt p.2.2.2 p.1) p.2) 0 0 : sProp 𝕄))]
  rfl

theorem toks_around : (bigSep Finset.univ fun c : Dev nD => (toks c : sProp 𝕄)) ⊢ bigSep Finset.univ fun c : Dev nD => payToks c := by
  rw [bigSep_congr fun (c : Dev nD) _ => toks_split c]
  unfold payToks barTok
  rw [bigSep_sep', bigSep_sep', bigSep_sep', bigSep_sep', bigSep_sep', bigSep_sep', bigSep_sep', bigSep_sep', bigSep_sep', bigSep_sep', deal_recv,
    bigSep_univ_equiv (ringE true) (fun c : Dev nD => (dutyTok ER (barCell c) 0 0 : sProp 𝕄)),
    bigSep_univ_equiv (ringE false) (fun c : Dev nD => (dutyTok ER (barCell c) 0 1 : sProp 𝕄))]
  exact BI.Entails.refl _

theorem regroup :
    (bigSep Finset.univ fun c : Dev nD => iprop((bigSep Finset.univ fun o => iprop(∃ κ : ℕ, cellInv ER (Rd X W) κ (cell c o)))
          ∗ (bigSep Finset.univ fun o => iprop(atPos ER (cell c o) 0 ∅ 0 ∗ reached ER (cell c o) 0)) ∗ toks c) : sProp 𝕄)
      ⊢ bigSep Finset.univ (G' X W) := by
  rw [bigSep_sep', bigSep_sep', ← bigSep_univ_prod (fun ck : Dev nD × Option CI => iprop(∃ κ : ℕ, cellInv ER (Rd X W) κ (cell ck.1 ck.2))),
    bigSep_congr (s := Finset.univ) (fun (c : Dev nD) _ => bigSep_sep' Finset.univ (fun o : Option CI => (atPos ER (cell c o) 0 ∅ 0 : sProp 𝕄)) (fun o => reached ER (cell c o) 0)),
    bigSep_sep', ← bigSep_univ_prod (fun ck : Dev nD × Option CI => (reached ER (cell ck.1 ck.2) 0 : sProp 𝕄))]
  iintro ⟨HI, ⟨Hat, #HR⟩, Htok⟩
  ihave HK := (BI.bigSep_exists_pi Finset.univ (fun (ck : Dev nD × Option CI) (κ : ℕ) => (cellInv ER (Rd X W) κ (cell ck.1 ck.2) : sProp 𝕄))) $$ HI
  icases HK with ⟨%K, #HI⟩
  ihave Htk := (toks_around (F := F)) $$ Htok
  have hg (c : Dev nD) : iprop(((bigSep Finset.univ fun ck : Dev nD × Option CI => cellInv ER (Rd X W) (K ck) (cell ck.1 ck.2))
      ∗ (bigSep Finset.univ fun ck : Dev nD × Option CI => reached ER (cell ck.1 ck.2) 0)) ∗ lin c) ⊢ G' X W c := by
    unfold G'
    iintro ⟨⟨#H1, #H2⟩, H3⟩
    iexists K
    isplitr; · iexact H1
    isplitr; · iexact H2
    iexact H3
  iapply (bigSep_with_persistent fun c _ => hg c)
  isplitr
  · isplitr; · iexact HI
    iexact HR
  · unfold lin
    iapply (Entails.of_eq (bigSep_sep' Finset.univ (fun c : Dev nD => bigSep Finset.univ fun o : Option CI => (atPos ER (cell c o) 0 ∅ 0 : sProp 𝕄)) payToks).symm)
    isplitl [Hat]; · iexact Hat
    iexact Htk

theorem glob : (bigSep Finset.univ fun c => iprop(Pipeline.ownSems0 (Ix := Unit) (Name := ℕ) (U := UU) (Lvl := ℕ) (Val := Elt F) (τ := τ) csem c ∗ unscopedSems0 c ∗ G X W c) : sProp 𝕄)
    ⊢ |={Set.univ}=> bigSep Finset.univ (G' X W) :=
  BIBase.Entails.trans (BIBase.Entails.trans (bigSep_mono fun c _ => core_alloc X W c) (bigSep_fupd _ _)) (BI.fupd_mono (regroup X W))

/-! ## The launch credit -/

theorem allK_count : ∀ k : Key, allK.count k = 1 := by decide +kernel

theorem oweL_recv (d c : Dev nD) (l : List Key) (k : Key) : oweL d l (vCell c k) () = if d = frm k.2.2 c then l.count k * NB else 0 := by
  induction l with
  | nil => unfold oweL; rw [List.count_nil, Nat.zero_mul, ite_self]; rfl
  | cons k' l ih =>
    unfold oweL
    rw [Pi.add_apply, Finsupp.add_apply, ih, tallyAt_apply]
    by_cases hk : k' = k
    · subst hk
      by_cases hd : d = frm k'.2.2 c
      · subst hd
        rw [if_pos rfl, if_pos ⟨by rw [tgt_frm], rfl⟩, if_pos rfl, List.count_cons_self, Nat.succ_mul]
      · rw [if_neg hd, if_neg hd, if_neg]
        rintro ⟨h, -⟩
        exact hd (by rw [(cell_inj h).1, frm_tgt])
    · have hne : ¬ (vCell c k = vCell (tgt k'.2.2 d) k' ∧ () = ()) := fun h => hk (by
        have := (cell_inj h.1).2
        injection this with this; injection this with this; injection this with this; exact this.symm)
      rw [List.count_cons_of_ne hk, if_neg hne, Nat.add_zero]

theorem oweL_bar (d c : Dev nD) (l : List Key) : oweL d l (barCell c) () = 0 := by
  by_contra h
  obtain ⟨k, _, e⟩ := oweL_pos (Nat.pos_of_ne_zero h)
  exact absurd (cell_inj e).2 (by simp)

theorem owed_recv (d c : Dev nD) (k : Key) : O₀ d (vCell c k) () = if d = frm k.2.2 c then NB else 0 := by
  unfold O₀ O₁
  have h : ∀ c', vCell c k ≠ barCell c' := fun c' e => absurd (cell_inj e).2 (by simp)
  rw [Pi.add_apply, Finsupp.add_apply, Pi.add_apply, Finsupp.add_apply, tallyAt_ne_cell (h _), tallyAt_ne_cell (h _), oweL_recv, allK_count, Nat.one_mul]
  exact Nat.add_zero _
theorem owed_bar (d c : Dev nD) : O₀ d (barCell c) () = (if d = frm false c then 1 else 0) + (if d = frm true c then 1 else 0) := by
  unfold O₀ O₁
  rw [Pi.add_apply, Finsupp.add_apply, Pi.add_apply, Finsupp.add_apply, oweL_bar, Nat.zero_add]
  have h (b : Bool) : tallyAt (barCell (tgt b d)) () 1 (barCell c) () = if d = frm b c then 1 else 0 := by
    rw [tallyAt_apply]
    by_cases hd : d = frm b c
    · subst hd; rw [if_pos ⟨by rw [tgt_frm], rfl⟩, if_pos rfl]
    · rw [if_neg hd, if_neg]
      rintro ⟨h, -⟩
      exact hd (by rw [(cell_inj h).1, frm_tgt])
  rw [h, h]

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (frm false c) fun _ => 1, Finset.sum_ite_eq' Finset.univ (frm true c) fun _ => 1, if_pos (Finset.mem_univ _), if_pos (Finset.mem_univ _)]
theorem launch_recv (c : Dev nD) (k : Key) :
    tallyOn (vCell c k) (launchCredit (Pipeline.owing O₀) 0 (vCell c k)) = (tallyAt (vCell c k) () NB : CellTallies nD τ sig Unit) := by
  unfold tallyAt; refine congrArg _ (Finsupp.ext fun u => ?_); cases u
  rw [Pipeline.launchCredit_owing, Finsupp.single_eq_same, Finset.sum_congr rfl fun d _ => owed_recv d c k, Finset.sum_ite_eq' Finset.univ (frm k.2.2 c) fun _ => NB,
    if_pos (Finset.mem_univ _)]

def recvE : Key ↪ SemLoc sig := ⟨fun k => asem (some (.inr (.inl k))), fun k k' h => by
  have h' := csem_inj (a₁ := .inr (.inl k)) (a₂ := .inr (.inl k')) h
  injection h' with h'; injection h'⟩

theorem credits (c : Dev nD) : (Pipeline.launchCred O₀ c : sProp 𝕄) ⊢ creds c := by
  unfold Pipeline.launchCred creds
  rw [bigSep_univ_at _ (SemLoc.reg barS)]
  rw [show tallyOn ((c : Thread nD τ), SemLoc.reg barS) (launchCredit (Pipeline.owing O₀) 0 ((c : Thread nD τ), SemLoc.reg barS)) = tallyAt (barCell c) () 2 from launch_bar c]
  refine sep_mono_right ?_
  refine BIBase.Entails.trans (bigSep_subset (t := Finset.univ.map recvE) fun sm h => ?_) (Entails.of_eq ?_)
  · obtain ⟨k, _, rfl⟩ := Finset.mem_map.mp h
    exact Finset.mem_erase.mpr ⟨fun e => (by cases e), Finset.mem_univ _⟩
  · rw [bigSep_map]
    exact bigSep_congr fun k _ => congrArg cred (launch_recv c k)

end Cert.RingProof

end
-- ==== Proof.Run.lean ====
/-
# The kernel runs, and what it leaves

From any memory with all counters at zero every weakly fair execution on the four devices terminates; at the end every
device's result is `Gout`, the operands are as they were and every counter is at zero.
-/
module

public import proofs.«01_k».proof.Proof.Launch
public import Idealize.ShloMosaic.Lib.Pipeline.CollectiveSegs
public import Idealize.ShloMosaic.Lib.Quiescent

@[expose] public section

noncomputable section

namespace Cert.RingProof

open Cert.KernelIdeal Cert.KernelIdeal.Gen
open Idealize.ShloMosaic Idealize.ShloMosaic.TcCoe Idealize.ShloMosaic.Pipeline
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

def s₀ : MemSt nD τ sig (Elt F) := ⟨m, fun _ => 0, ρ⟩

/-- The operands as staged. -/
def Xs (c : Dev nD) : Vec F S4096x1024 .bf16 := m ((c : Thread nD τ).loc main_arg0)
def Ws (c : Dev nD) : Vec F S1024x2048 .bf16 := m ((c : Thread nD τ).loc main_arg1)
/-- The result. -/
def Gm : S4096x2048.Idx → Elt F .bf16 := Gout (Xs m) (Ws m)

def start (c : Dev nD) : sProp 𝕄 :=
  iprop(G' (Xs m) (Ws m) c ∗ levAts L lv ∗ creds c ∗ (∃ f : Buf (Elt F) (outL c), outL c ↦{fullShare} f))
def Φ₀ (c : Dev nD) : sProp 𝕄 := iprop(start m c ∗ bufs c)
def Φ₁ (c : Dev nD) : sProp 𝕄 :=
  iprop((outL c ↦{fullShare} Gout (Xs m) (Ws m)) ∗ bufs c ∗ semsC c ∗ semVal (barCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => Xs m c
    | ⟨1, _⟩ => Ws m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem owns_whole_eq (c : Dev nD) (b : Ref sig .tc) (x : b.ty.Contents (Elt F)) :
    (owns (Ix := Unit) (Name := ℕ) (U := UU) (Lvl := ℕ) (c : Thread nD τ) (Memref.whole b) fullShare x : sProp 𝕄)
      = iprop(∃ f : Buf (Elt F) (((c : Dev nD) : Thread nD τ).loc b), ⌜f = x⌝ ∗ (((c : Thread nD τ).loc b) ↦{fullShare} f)) := by
  unfold owns; simp only [Memref.view_whole, View.read_whole, View.set_whole]

abbrev stg (c : Dev nD) (b : Ref sig .tc) (x : b.ty.Contents (Elt F)) : sProp 𝕄 :=
  iprop(∃ f : Buf (Elt F) (((c : Dev nD) : Thread nD τ).loc b), ⌜f = x⌝ ∗ (((c : Thread nD τ).loc b) ↦{fullShare} f))

theorem staged0 (c : Dev nD) (d : (cfg0.win (0 : Fin 2)).block.Idx → Elt F (cfg0.win (0 : Fin 2)).elt) : (dats m ρ 0 c).before (0 : Fin 2) t0_0 d = Xs m c := by
  unfold Dat.before; rw [if_pos (fetch0_0 t0_0)]
  exact Memref.readAt_unit_zero (Elt F) main_arg0 (funext fun a => by fin_cases a <;> rfl) _ _
theorem staged1 (c : Dev nD) (d : (cfg0.win (1 : Fin 2)).block.Idx → Elt F (cfg0.win (1 : Fin 2)).elt) : (dats m ρ 0 c).before (1 : Fin 2) t0_0 d = Ws m c := by
  unfold Dat.before; rw [if_pos (fetch0_1 t0_0)]
  exact Memref.readAt_unit_zero (Elt F) main_arg1 (funext fun a => by fin_cases a <;> rfl) _ _

def bodyPre (c : Dev nD) : sProp 𝕄 :=
  iprop(Φ₀ m c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))
def bodyPost (c : Dev nD) : sProp 𝕄 :=
  iprop(Φ₁ m c ∗ (dats m ρ 0 c).owesAt () t0_0.succ ∗ stg c cc0_stg0_0 (Xs m c) ∗ stg c cc0_stg1_0 (Ws m c))

theorem sound_body (c : Dev nD) : bodyPre m ρ c ⊢ WP c body fun _ => bodyPost m ρ c := by
  unfold bodyPre Φ₀ start G'
  iintro ⟨⟨⟨⟨%K, #HI, #HR, Hl⟩, #Hlev, Hcr, Hout⟩, Hb⟩, Ho, ⟨%d0, %g0, %hg0, Hx⟩, ⟨%d1, %g1, %hg1, Hw⟩⟩
  rw [staged0] at hg0
  rw [staged1] at hg1
  subst hg0 hg1
  unfold Dat.owesAt Pipeline.owesWithin
  icases Ho with ⟨%w, %hw, HO⟩
  rw [show (dats m ρ 0 c).owed t0_0.castSucc = O₀ c from rfl]
  iapply (body_ok (Xs m) (Ws m) K c w _) $$ [Hl Hcr Hout Hb HO Hx Hw]
  · isplitr
    · unfold recs
      isplitr; · iexact HI
      isplitr; · iexact HR
      iexact Hlev
    isplitl [Hl]; · iexact Hl
    isplitl [Hcr]; · iexact Hcr
    isplitl [Hout]; · iexact Hout
    isplitl [Hb]; · iexact Hb
    isplitl [HO]; · iexact HO
    isplitl [Hx]; · iexact Hx
    iexact Hw
  unfold fin bodyPost Φ₁ ow Dat.owesAt Pipeline.owesWithin
  rw [show (dats m ρ 0 c).owed t0_0.succ = 0 from rfl]
  iintro ⟨Hout, Hb, Hs, HB, ⟨%w', HO⟩, Hx, Hw⟩
  isplitl [Hout Hb Hs HB]
  · isplitl [Hout]; · iexact Hout
    isplitl [Hb]; · iexact Hb
    isplitl [Hs] <;> iassumption
  isplitl [HO]
  · iexists w'
    isplitr; · ipureintro; exact fun _ _ => Or.inl trivial
    iexact HO
  isplitl [Hx]
  · iexists _; isplitr; · (ipureintro; rfl)
    iexact Hx
  iexists _; isplitr; · (ipureintro; rfl)
  iexact Hw

set_option maxRecDepth 1000000 in
set_option maxHeartbeats 0 in
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ wp frame (wpE (defs₀ (F := F)) 𝒱₀ c none) Set.univ (bodyAt0 t0_0) (fun _ => bodyPost m ρ c)
  rw [body_eq]
  exact sound_body m ρ c

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (Xs m) (Ws m) c)
      ⊢ |={Set.univ}=> iprop(start m c ∗ emp) := by
  rw [Pipeline.unscopedRestP_none, unscopedRest0_eq]
  iintro ⟨Hout, Hlev, Hcr, -, HG⟩
  ihave Hc := (credits (F := F) c) $$ Hcr
  imodintro
  unfold start
  isplitl
  · isplitl [HG]; · iexact HG
    isplitl [Hlev]; · iexact Hlev
    isplitl [Hc]; · iexact Hc
    iexists _; iexact Hout
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ bufs commA
  iintro ⟨Hs, -, H0, H1, H2⟩
  isplitl [Hs]; · iexact Hs
  isplitl [H0]; · iexact H0
  isplitl [H1]; · iexact H1
  iexact H2

theorem phi1_exit (c : Dev nD) :
    (dats m ρ 0 c).Φ (Fin.last cfg0.N) ⊢ iprop((unscopedSems0 c ∗ (outL c ↦{fullShare} Gout (Xs m) (Ws m))) ∗ Pipeline.ownSems0 csem c ∗ Pipeline.scopedRest cfg0.spec c) := by
  rw [show (dats m ρ 0 c).Φ (Fin.last cfg0.N) = Φ₁ m c from rfl, scopedRest0_eq, unscopedSems0_eq]
  unfold Φ₁ bufs commA
  iintro ⟨Hout, ⟨H0, H1, H2⟩, Hs, HB⟩
  isplitl [Hout HB]; · isplitl [HB] <;> iassumption
  isplitl [Hs]
  · iapply (Entails.of_eq (show semsC c = (Pipeline.ownSems0 (Ix := Unit) (Name := ℕ) (U := UU) (Lvl := ℕ) (Val := Elt F) (τ := τ) csem c : sProp 𝕄) from rfl)); iexact Hs
  isplitl [H0]; · iexact H0
  isplitl [H1]; · iexact H1
  iexact H2

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- What holds at the end. -/
def QC : PUnit × MemSt nD τ sig (Elt F) → Prop := fun r =>
  (∀ c : Dev nD, r.2.mem ((c : Thread nD τ).loc main_v1) = Gm m
    ∧ r.2.mem ((c : Thread nD τ).loc main_arg0) = m ((c : Thread nD τ).loc main_arg0) ∧ r.2.mem ((c : Thread nD τ).loc main_arg1) = m ((c : Thread nD τ).loc main_arg1))
  ∧ r.2.sem = fun _ => 0

set_option maxRecDepth 1000000 in
set_option maxHeartbeats 2000000 in
theorem run_main : θ_run defs (onTc (τ := τ) (main (F := F))) (s₀ m ρ) (QC m) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (Xs m) (Ws m)) (G' := G' (Xs m) (Ws m)) (u₀ := u₀)
    (hu₀ := by
      unfold u₀
      iintro Hu
      ihave H := (ownU_pair _ _) $$ Hu
      icases H with ⟨HP, HX⟩
      imod (fund_ring (Xs m) (Ws m)) $$ HX with HG
      imodintro
      isplitl [HP] <;> iassumption)
    (hglob := glob (Xs m) (Ws m))
    (hA := fun _ _ => rfl) (hpf := fun _ k => k.elim0)
    (X := start m) (Y := fun c => iprop(unscopedSems0 c ∗ (outL c ↦{fullShare} Gout (Xs m) (Ws m)))) (Z := fun _ => iprop(emp))
    (hX := start_intro m ρ) (hin := phi0_intro m ρ) (hout := phi1_exit m ρ)
    (QY := fun c s => s.mem (outL c) = Gm m ∧ ∀ sm : SemLoc sig, sm.isScoped .tc = false → s.sem ((c.tc : Thread nD τ), sm) = 0)
    (hY := fun c s' => by
      iintro ⟨⟨Hu, Ho⟩, -, HSI⟩
      icombine HSI Ho gives %ho
      imod (Pipeline.unscopedSems0_read (X := unscopedSems0 c) (c := c) fupd_intro s') $$ [Hu HSI] with ⟨%hs, HSI⟩
      · isplitl [Hu] <;> iassumption
      imodintro
      isplitr; · ipureintro; exact ⟨Buf.eq_of_forall_mem_univ ho, hs⟩
      iexact HSI)
    (hQ := fun _ h hs => ⟨fun c => ⟨(h c).2.2.1,
      ((h c).1 (0 : Fin 2)).trans ((dats (F := F) m ρ 0 c).arrAt_in (0 : Fin 2) rfl _), ((h c).1 (1 : Fin 2)).trans ((dats (F := F) m ρ 0 c).arrAt_in (1 : Fin 2) rfl _)⟩,
      sem_eq_zero hs fun c => (h c).2.2.2⟩)

end Cert.RingProof

end
-- ==== Proof.Same.lean ====
/-
# The kernel and the ideal kernel have one text

No operation was rewritten, so the two printed programs are equal, at any one choice of float values.
-/
module

public import proofs.«01_k».proof.Defs
public import proofs.«01_k».proof.Proof.Gen.Kernel
public import proofs.«01_k».proof.Proof.Gen.KernelIdeal

@[expose] public section

noncomputable section

namespace Cert.RingProof

open Idealize.ShloMosaic

set_option maxRecDepth 1000000
set_option maxHeartbeats 4000000

theorem cc0_body_eq : @Cert.Kernel.cc0_body Bits _ Cert.Kernel.Gen.facts = @Cert.KernelIdeal.cc0_body Bits _ Cert.KernelIdeal.Gen.facts := rfl

theorem defs₀_eq : @Cert.Kernel.defs₀ Bits _ Cert.Kernel.Gen.facts = @Cert.KernelIdeal.defs₀ Bits _ Cert.KernelIdeal.Gen.facts := by
  unfold Cert.Kernel.defs₀ Cert.KernelIdeal.defs₀
  refine congrArg (Defs.onTc (nD := Cert.Kernel.nD) (τ := Cert.Kernel.τ) (sig := Cert.Kernel.sig) (Val := Elt Bits) (Λ := Cert.Kernel.Λ₀)) (funext fun l => funext fun a => ?_)
  match l, a with
  | 0, (t, s) => exact rfl

theorem defs_eq : @Cert.Kernel.defs Bits _ Cert.Kernel.Gen.facts = @Cert.KernelIdeal.defs Bits _ Cert.KernelIdeal.Gen.facts :=
  congrArg (Pipeline.defs Cert.KernelIdeal.pcfgs) defs₀_eq

end Cert.RingProof

end
-- ==== Proof.Values.lean ====
/-
# What the result is over the extended reals

`blk d 3 b c` is the finished block: the sum, around the ring, of the four devices' products, through the activation.
Over the extended reals a cast is the identity and a sum may be taken in any order, so this is the reference's product
of the whole arrays through the same activation.
-/
module

public import proofs.«01_k».proof.Proof.Geom
public import proofs.«01_k».proof.Proof.Gen.ReferenceIdeal
public import Idealize.ShloMosaic.Lib.MatmulPlain
public import Idealize.ShloMosaic.Lib.StackMember
public import Idealize.ShloMosaic.Lib.IdealHost
public import Idealize.ShloMosaic.Lib.Layout

@[expose] public section

noncomputable section

namespace Cert.RingProof

open Cert.KernelIdeal Cert.KernelIdeal.Gen
open Idealize.ShloMosaic Idealize.ShloMosaic.TcCoe Idealize.ShloMosaic.ValueIdx Idealize.SL.Sem
open scoped BigOperators

/-! ## The activation -/

/-- `y / (1 + exp (-y))`. -/
def silu (y : EReal) : EReal := Ideal.div y (1 + Ideal.exp (-y))

theorem exp_nonneg (y : EReal) : 0 ≤ Ideal.exp y := by
  induction y with
  | bot => exact le_refl _
  | top => exact le_top
  | coe r => exact EReal.coe_nonneg.mpr (Real.exp_nonneg r)

theorem one_add_exp_ne (y : EReal) : 1 + Ideal.exp y ≠ 0 :=
  ne_of_gt (lt_of_lt_of_le zero_lt_one (le_add_of_nonneg_right (exp_nonneg y)))

/-- The kernel multiplies by the reciprocal. -/
theorem silu_recip (y : EReal) : y * Ideal.div 1 (1 + Ideal.exp (0 - y)) = silu y := by
  rw [Ideal.mul_one_div (one_add_exp_ne _), zero_sub]; rfl

/-! ## The coordinates in the whole arrays -/

/-- Row `x` of block `b` of chunk `q`; column `y` of half `d`; position `k` of device `q`'s share of the contraction. -/
def row (q : Dev nD) (b : Fin 8) (x : Fin 128) : Fin 4096 := ⟨1024 * q.val + 128 * b.val + x.val, by have : q.val < 4 := q.isLt; omega⟩
def col (d : Bool) (y : Fin 1024) : Fin 2048 := ⟨1024 * (dix d).val + y.val, by have := (dix d).isLt; omega⟩
def pos (q : Dev nD) (k : Fin 1024) : Fin 4096 := ⟨q.val * 1024 + k.val, by have : q.val < 4 := q.isLt; omega⟩

section Sums

variable (A : (⟨2, ![4096, 4096]⟩ : Shape).Idx → EReal) (B : (⟨2, ![4096, 2048]⟩ : Shape).Idx → EReal)

/-- Device `q`'s share of an element of the product. -/
def share (r : Fin 4096) (n : Fin 2048) (q : Dev nD) : EReal := ∑ k : Fin 1024, A (ix2 r (pos q k)) * B (ix2 (pos q k) n)

/-- The four shares make the whole sum. -/
theorem share_sum (r : Fin 4096) (n : Fin 2048) : ∑ q : Dev nD, share A B r n q = ∑ k : Fin 4096, A (ix2 r k) * B (ix2 k n) := by
  unfold share
  have e := Equiv.sum_comp (finProdFinEquiv (m := 4) (n := 1024)) (fun k : Fin 4096 => A (ix2 r k) * B (ix2 k n))
  refine Eq.trans ?_ e
  rw [Fintype.sum_prod_type]
  refine Finset.sum_congr rfl fun q _ => Finset.sum_congr rfl fun k _ => ?_
  have : pos q k = finProdFinEquiv (m := 4) (n := 1024) (q, k) := Fin.ext (by show q.val * 1024 + k.val = k.val + 1024 * q.val; omega)
  rw [this]

/-- The devices in the order in which the ring adds their shares. -/
theorem ring_sum (d : Bool) (q : Dev nD) (f : Dev nD → EReal) :
    f q + (f (chk d 1 q) + (f (chk d 2 q) + f (chk d 3 q))) = ∑ p : Dev nD, f p := by
  have hb : Function.Bijective (fun r : Fin 4 => (chk d r.val q : Fin 4)) :=
    Finite.injective_iff_bijective.mp fun r r' h => chk_inj d q r r' (congrArg Fin.val h)
  have e := hb.sum_comp (fun p : Fin 4 => f p)
  refine Eq.trans ?_ e
  rw [Fin.sum_univ_four]
  rw [← add_assoc, ← add_assoc]; rfl

end Sums

/-! ## The blocks -/

/-- `x` is cut in 4 along its columns, `w` along its rows. -/
theorem tilesX : Layout.Tiles ⟨2, ![4096, 1024]⟩ ⟨2, ![4096, 4096]⟩ 1 4 := by decide
theorem tilesW : Layout.Tiles ⟨2, ![1024, 2048]⟩ ⟨2, ![4096, 2048]⟩ 0 4 := by decide

theorem xoffA_chk (d : Bool) (b : Fin 8) (q : Dev nD) : xoffA d b (chk d 3 q) = ![1024 * q.val + 128 * b.val, 0] := by
  revert d b q; decide +kernel
theorem xoffP_chk (d : Bool) (h : Fin 3) (q : Dev nD) : xoffP d h.succ (chk d (2 - h.val) q) = ![1024 * q.val, 0] := by
  revert d h q; decide +kernel

section Blocks

variable (X : Dev nD → Vec Ideal S4096x1024 .bf16) (W : Dev nD → Vec Ideal S1024x2048 .bf16)
variable (A : (⟨2, ![4096, 4096]⟩ : Shape).Idx → EReal) (B : (⟨2, ![4096, 2048]⟩ : Shape).Idx → EReal)
variable (hX : ∀ c : Dev nD, X c = Layout.block ⟨2, ![4096, 1024]⟩ ⟨2, ![4096, 4096]⟩ 1 4 c A tilesX)
variable (hW : ∀ c : Dev nD, W c = Layout.block ⟨2, ![1024, 2048]⟩ ⟨2, ![4096, 2048]⟩ 0 4 c B tilesW)

include hX in
theorem X_at (c : Dev nD) (i : S4096x1024.Idx) (r : Fin 4096) (k : Fin 1024) (h0 : (i 0).val = r.val) (h1 : (i 1).val = k.val) :
    X c i = A (ix2 r (pos c k)) := by
  rw [hX c, Layout.block_apply]
  refine congrArg A (funext fun a => Fin.ext ?_)
  fin_cases a
  · exact h0
  · show c.val * 1024 + (i 1).val = c.val * 1024 + k.val; rw [h1]

include hW in
theorem W_at (c : Dev nD) (i : S1024x2048.Idx) (k : Fin 1024) (n : Fin 2048) (h0 : (i 0).val = k.val) (h1 : (i 1).val = n.val) :
    W c i = B (ix2 (pos c k) n) := by
  rw [hW c, Layout.block_apply]
  refine congrArg B (funext fun a => Fin.ext ?_)
  fin_cases a
  · show c.val * 1024 + (i 0).val = c.val * 1024 + k.val; rw [h0]
  · exact h1

include hW in
theorem wH_at (d : Bool) (c : Dev nD) (k y : Fin 1024) : wH W d c (ix2 k y) = B (ix2 (pos c k) (col d y)) := by
  have e : w16 W c = W c := by
    unfold w16 k0_pay1
    exact (shapeCast_self _ _).trans (shapeCast_self _ _)
  unfold wH
  rw [e]
  refine Eq.trans (b := W c ((wR d).emb (ix2 k y))) rfl (W_at W B hW c _ k (col d y) ?_ ?_)
  · show 0 + 1 * k.val = k.val; omega
  · show 1024 * (dix d).val + 1 * y.val = 1024 * (dix d).val + y.val; omega

include hX in
theorem xA_at (d : Bool) (b : Fin 8) (q : Dev nD) (x : Fin 128) (k : Fin 1024) :
    xA X d b (chk d 3 q) (ix2 x k) = A (ix2 (row q b x) (pos (chk d 3 q) k)) := by
  refine Eq.trans (b := X (chk d 3 q) ((xRA d b (chk d 3 q)).emb (ix2 x k))) rfl (X_at X A hX _ _ (row q b x) k ?_ ?_)
  · show xoffA d b (chk d 3 q) 0 + 1 * x.val = _
    rw [xoffA_chk]; show 1024 * q.val + 128 * b.val + 1 * x.val = 1024 * q.val + 128 * b.val + x.val; omega
  · show xoffA d b (chk d 3 q) 1 + 1 * k.val = _
    rw [xoffA_chk]; show 0 + 1 * k.val = k.val; omega

include hX in
theorem xP_at (d : Bool) (h : Fin 3) (q : Dev nD) (b : Fin 8) (x : Fin 128) (z k : Fin 1024) (hz : z.val = 128 * b.val + x.val) :
    xP X d h.succ (chk d (2 - h.val) q) (ix2 z k) = A (ix2 (row q b x) (pos (chk d (2 - h.val) q) k)) := by
  refine Eq.trans (b := X (chk d (2 - h.val) q) ((xRP d h.succ (chk d (2 - h.val) q)).emb (ix2 z k))) rfl (X_at X A hX _ _ (row q b x) k ?_ ?_)
  · show xoffP d h.succ (chk d (2 - h.val) q) 0 + 1 * z.val = _
    rw [xoffP_chk]; show 1024 * q.val + 1 * z.val = 1024 * q.val + 128 * b.val + x.val; omega
  · show xoffP d h.succ (chk d (2 - h.val) q) 1 + 1 * k.val = _
    rw [xoffP_chk]; show 0 + 1 * k.val = k.val; omega

/-- The first block is the first device's share. -/
theorem payA_at (v : Vec Ideal S128x1024 .bf16) (w : Vec Ideal S1024x1024 .bf16) (x : Fin 128) (y : Fin 1024) :
    payA v w (ix3 (0 : Fin 1) x y) = ∑ k : Fin 1024, v (ix2 x k) * w (ix2 k y) := by
  unfold payA k0_pay4
  refine (shapeCast_ab_1ab_apply _ _ (0 : Fin 1) x y).trans ?_
  rw [shapeCast_self]
  refine (Ideal.matmul_plain_apply (φ₁ := .bf16) (φ₂ := .bf16) none v w _ x y).trans ?_
  rw [show (constant S128x1024 .f32 0x00000000#32 : FVec Ideal S128x1024 .f32) (ix2 x y) = 0 from Ideal.ofBits_zero_f32, zero_add]

theorem payP_at (v w : Vec Ideal S1024x1024 .bf16) (z y : Fin 1024) :
    payP v w (ix2 z y) = ∑ k : Fin 1024, v (ix2 z k) * w (ix2 k y) := by
  unfold payP k0_pay21
  rw [shapeCast_self]
  refine (Ideal.matmul_plain_apply (φ₁ := .bf16) (φ₂ := .bf16) none v w _ z y).trans ?_
  rw [show (constant S1024x1024 .f32 0x00000000#32 : FVec Ideal S1024x1024 .f32) (ix2 z y) = 0 from Ideal.ofBits_zero_f32, zero_add]

theorem sumP_at (b : Fin 8) (p : FVec Ideal S1024x1024 .f32) (u : Vec Ideal S1x128x1024 .bf16) (x : Fin 128) (y z : Fin 1024)
    (hz : z.val = 128 * b.val + x.val) : sumP b p u (ix2 x y) = p (ix2 z y) + u (ix3 (0 : Fin 1) x y) := by
  have e1 : extractStridedSlice S128x1024 ![128 * b.val, 0] p (slices_b b) (ix2 x y) = p (ix2 z y) :=
    extractStridedSlice_apply _ _ _ _ _ fun a => by
      fin_cases a
      · exact hz
      · show y.val = 0 + y.val; omega
  have e2 : shapeCast S128x1024 u shapeCasts_S1x128x1024_S128x1024 (ix2 x y) = u (ix3 (0 : Fin 1) x y) := shapeCast_1ab_ab_apply _ _ x y
  exact congrArg₂ (fun a b : EReal => a + b) e1 e2

theorem payAcc_at (b : Fin 8) (p : FVec Ideal S1024x1024 .f32) (u : Vec Ideal S1x128x1024 .bf16) (x : Fin 128) (y z : Fin 1024)
    (hz : z.val = 128 * b.val + x.val) : payAcc b p u (ix3 (0 : Fin 1) x y) = p (ix2 z y) + u (ix3 (0 : Fin 1) x y) :=
  (shapeCast_ab_1ab_apply _ _ (0 : Fin 1) x y).trans (sumP_at b p u x y z hz)

theorem paySilu_at (b : Fin 8) (p : FVec Ideal S1024x1024 .f32) (u : Vec Ideal S1x128x1024 .bf16) (x : Fin 128) (y z : Fin 1024)
    (hz : z.val = 128 * b.val + x.val) : paySilu b p u (ix3 (0 : Fin 1) x y) = silu (p (ix2 z y) + u (ix3 (0 : Fin 1) x y)) := by
  unfold paySilu k0_pay72
  refine (shapeCast_ab_1ab_apply _ _ (0 : Fin 1) x y).trans ?_
  rw [← sumP_at b p u x y z hz]
  generalize sumP b p u = s
  refine Eq.trans ?_ (silu_recip (s (ix2 x y)))
  show s (ix2 x y) * Ideal.div (Ideal.ofBits .f32 0x3F800000#32) (Ideal.ofBits .f32 0x3F800000#32 + Ideal.exp (Ideal.ofBits .f32 0x00000000#32 - s (ix2 x y))) = _
  rw [Ideal.ofBits_one_f32, Ideal.ofBits_zero_f32]

include hX hW in
theorem prod_at (d : Bool) (h : Fin 3) (q : Dev nD) (b : Fin 8) (x : Fin 128) (z y : Fin 1024) (hz : z.val = 128 * b.val + x.val) :
    prod X W d h.succ (chk d (2 - h.val) q) (ix2 z y) = share A B (row q b x) (col d y) (chk d (2 - h.val) q) := by
  unfold prod share
  rw [payP_at]
  exact Finset.sum_congr rfl fun k _ => congrArg₂ (fun a b : EReal => a * b) (xP_at X A hX d h q b x z k hz) (wH_at W B hW d _ k y)

include hX hW in
/-- The finished block is the activation of the whole sum. -/
theorem blk3_at (d : Bool) (q : Dev nD) (b : Fin 8) (x : Fin 128) (y : Fin 1024) :
    blk X W d 3 b q (ix3 (0 : Fin 1) x y) = silu (∑ k : Fin 4096, A (ix2 (row q b x) k) * B (ix2 k (col d y))) := by
  obtain ⟨z, hz⟩ : ∃ z : Fin 1024, z.val = 128 * b.val + x.val := ⟨⟨128 * b.val + x.val, by omega⟩, rfl⟩
  have b0 : blk X W d 0 b (chk d 3 q) (ix3 (0 : Fin 1) x y) = share A B (row q b x) (col d y) (chk d 3 q) := by
    refine (payA_at _ _ x y).trans ?_
    exact Finset.sum_congr rfl fun k _ => congrArg₂ (fun a b : EReal => a * b) (xA_at X A hX d b q x k) (wH_at W B hW d _ k y)
  have b1 : blk X W d 1 b (chk d 2 q) (ix3 (0 : Fin 1) x y)
      = share A B (row q b x) (col d y) (chk d 2 q) + share A B (row q b x) (col d y) (chk d 3 q) := by
    refine Eq.trans (b := payAcc b (prod X W d 1 (chk d 2 q)) (blk X W d 0 b (frm d (chk d 2 q))) (ix3 (0 : Fin 1) x y)) rfl ?_
    rw [payAcc_at b _ _ x y z hz, show frm d (chk d 2 q) = chk d 3 q from (Function.iterate_succ_apply' (frm d) 2 q).symm, b0]
    exact congrArg (fun a : EReal => a + _) (prod_at X W A B hX hW d 0 q b x z y hz)
  have b2 : blk X W d 2 b (chk d 1 q) (ix3 (0 : Fin 1) x y)
      = share A B (row q b x) (col d y) (chk d 1 q) + (share A B (row q b x) (col d y) (chk d 2 q) + share A B (row q b x) (col d y) (chk d 3 q)) := by
    refine Eq.trans (b := payAcc b (prod X W d 2 (chk d 1 q)) (blk X W d 1 b (frm d (chk d 1 q))) (ix3 (0 : Fin 1) x y)) rfl ?_
    rw [payAcc_at b _ _ x y z hz, show frm d (chk d 1 q) = chk d 2 q from (Function.iterate_succ_apply' (frm d) 1 q).symm, b1]
    exact congrArg (fun a : EReal => a + _) (prod_at X W A B hX hW d 1 q b x z y hz)
  refine Eq.trans (b := paySilu b (prod X W d 3 q) (blk X W d 2 b (frm d q)) (ix3 (0 : Fin 1) x y)) rfl ?_
  rw [paySilu_at b _ _ x y z hz, show frm d q = chk d 1 q from rfl, b2]
  rw [← share_sum, ← ring_sum d q]
  exact congrArg (fun a : EReal => silu (a + _)) (prod_at X W A B hX hW d 2 q b x z y hz)

include hX hW in
/-- The result is the reference's. -/
theorem Gout_ideal (i : S4096x2048.Idx) :
    Gout X W i = silu (∑ k : Fin 4096, A (ix2 (⟨(i 0).val, (i 0).isLt⟩ : Fin 4096) k) * B (ix2 k (⟨(i 1).val, (i 1).isLt⟩ : Fin 2048))) := by
  have h0 : (i 0).val < 4096 := (i 0).isLt
  have h1 : (i 1).val < 2048 := (i 1).isLt
  obtain ⟨d, hd⟩ := dix_cover ⟨(i 1).val / 1024, by omega⟩
  have hd' : (dix d).val = (i 1).val / 1024 := hd
  have e := Gout_at X W d (⟨(i 0).val / 1024, by show _ < 4; omega⟩ : Dev nD) ⟨(i 0).val % 1024 / 128, by omega⟩
    ⟨(i 0).val % 128, by omega⟩ ⟨(i 1).val % 1024, by omega⟩ i
    (by show (i 0).val = 1024 * ((i 0).val / 1024) + 128 * ((i 0).val % 1024 / 128) + (i 0).val % 128; omega)
    (by show (i 1).val = 1024 * (dix d).val + (i 1).val % 1024; rw [hd']; omega)
  rw [e, blk3_at X W A B hX hW]
  have r0 : row (⟨(i 0).val / 1024, by show _ < 4; omega⟩ : Dev nD) ⟨(i 0).val % 1024 / 128, by omega⟩ ⟨(i 0).val % 128, by omega⟩ = ⟨(i 0).val, h0⟩ :=
    Fin.ext (by show 1024 * ((i 0).val / 1024) + 128 * ((i 0).val % 1024 / 128) + (i 0).val % 128 = (i 0).val; omega)
  have r1 : col d ⟨(i 1).val % 1024, by omega⟩ = ⟨(i 1).val, h1⟩ :=
    Fin.ext (by show 1024 * (dix d).val + (i 1).val % 1024 = (i 1).val; rw [hd']; omega)
  rw [r0, r1]

end Blocks

/-! ## The reference -/

open Cert.ReferenceIdeal in
/-- The reference's activation, at an index. -/
theorem ref_silu (y : FVec Ideal Cert.ReferenceIdeal.S4096x2048 .f32) (hb : Cert.ReferenceIdeal.S_.BroadcastsInDim Cert.ReferenceIdeal.S4096x2048 ![])
    (h3 : FTy.bf16.bits < FTy.f32.bits) (i : Cert.ReferenceIdeal.S4096x2048.Idx) :
    truncf .bf16 (Host.divf y (addf (broadcastInDim Cert.ReferenceIdeal.S4096x2048 ![] hb (constant Cert.ReferenceIdeal.S_ .f32 0x3F800000#32))
      (Host.exp (Host.negf y)))) h3 i = silu (y i) := by
  show Ideal.div (y i) (Ideal.ofBits .f32 0x3F800000#32 + Ideal.exp (-(y i))) = _
  rw [Ideal.ofBits_one_f32]; rfl

/-- The reference's product, at an index. -/
theorem ref_dot [Cert.ReferenceIdeal.Facts] (A : FVec Ideal Cert.ReferenceIdeal.S4096x4096 .f32) (B : FVec Ideal Cert.ReferenceIdeal.S4096x2048 .f32) (i : Cert.ReferenceIdeal.S4096x2048.Idx) :
    Host.dotGeneral Cert.ReferenceIdeal.dot_S4096x4096_S4096x2048_S4096x2048_1_0_0_1_n_n none A B i
      = ∑ k : Fin 4096, A (ix2 (⟨(i 0).val, (i 0).isLt⟩ : Fin 4096) k) * B (ix2 k (⟨(i 1).val, (i 1).isLt⟩ : Fin 2048)) := by
  have hi : i = ix2 (⟨(i 0).val, (i 0).isLt⟩ : Fin 4096) (⟨(i 1).val, (i 1).isLt⟩ : Fin 2048) := eq_ix2 i
  refine (congrArg _ hi).trans ?_
  exact StackMember.dotGeneral_plain_apply (m := 4096) (n := 2048) (k := 4096) (φ₁ := .f32) (φ₂ := .f32) none A B _ _

end Cert.RingProof

end
-- ==== Proof.Clip.lean ====
/-
# The clip inside the exponential

Where every device's share of an element of the product lies between -15 and 15, the whole element lies between -60 and
60. There the clip is the identity, and the clipped activation is the kernel's.
-/
module

public import proofs.«01_k».proof.Proof.Values
public import proofs.«01_k».proof.Proof.Gen.ClippedReferenceIdeal
public import proofs.«01_k».proof.Proof.Gen.Pre_shares_within_15_KernelIdeal
public import Idealize.ShloMosaic.Lib.ReduceAll

@[expose] public section

noncomputable section

namespace Cert.RingProof

open Cert.KernelIdeal Cert.KernelIdeal.Gen
open Idealize.ShloMosaic Idealize.ShloMosaic.TcCoe Idealize.ShloMosaic.ValueIdx Idealize.SL.Sem
open scoped BigOperators

/-! ## The three bounds -/

theorem ofBits_15 : Ideal.ofBits .f32 0x41700000#32 = ((15 : ℝ) : EReal) := by
  simp [Ideal.ofBits, Ideal.ieee, -EReal.coe_mul, -EReal.coe_neg]; norm_num

theorem ofBits_60 : Ideal.ofBits .f32 0x42700000#32 = ((60 : ℝ) : EReal) := by
  simp [Ideal.ofBits, Ideal.ieee, -EReal.coe_mul, -EReal.coe_neg]; norm_num

theorem ofBits_neg_60 : Ideal.ofBits .f32 0xC2700000#32 = ((-60 : ℝ) : EReal) := by
  simp [Ideal.ofBits, Ideal.ieee, -EReal.coe_mul, -EReal.coe_neg]; norm_num

/-- A number whose absolute value is at most 15. -/
theorem within_of_abs {s : EReal} (h : max s (-s) ≤ ((15 : ℝ) : EReal)) : ((-15 : ℝ) : EReal) ≤ s ∧ s ≤ ((15 : ℝ) : EReal) :=
  ⟨by rw [EReal.coe_neg]; exact EReal.neg_le_of_neg_le ((le_max_right _ _).trans h), (le_max_left _ _).trans h⟩

/-- Four such numbers sum to one between -60 and 60. -/
theorem sum_within (f : Dev nD → EReal) (h : ∀ q, ((-15 : ℝ) : EReal) ≤ f q ∧ f q ≤ ((15 : ℝ) : EReal)) :
    ((-60 : ℝ) : EReal) ≤ ∑ q, f q ∧ ∑ q, f q ≤ ((60 : ℝ) : EReal) := by
  have e : ∑ q, f q = f (0 : Fin 4) + f (1 : Fin 4) + f (2 : Fin 4) + f (3 : Fin 4) := Fin.sum_univ_four (fun q : Fin 4 => f q)
  have lo : ((-60 : ℝ) : EReal) = ((-15 : ℝ) : EReal) + ((-15 : ℝ) : EReal) + ((-15 : ℝ) : EReal) + ((-15 : ℝ) : EReal) := by
    rw [← EReal.coe_add, ← EReal.coe_add, ← EReal.coe_add]; norm_num
  have hi : ((60 : ℝ) : EReal) = ((15 : ℝ) : EReal) + ((15 : ℝ) : EReal) + ((15 : ℝ) : EReal) + ((15 : ℝ) : EReal) := by
    rw [← EReal.coe_add, ← EReal.coe_add, ← EReal.coe_add]; norm_num
  rw [e, lo, hi]
  exact ⟨add_le_add (add_le_add (add_le_add (h _).1 (h _).1) (h _).1) (h _).1,
    add_le_add (add_le_add (add_le_add (h _).2 (h _).2) (h _).2) (h _).2⟩

/-- Between the bounds the clip is the identity. -/
theorem clip_eq {y : EReal} (h : ((-60 : ℝ) : EReal) ≤ y ∧ y ≤ ((60 : ℝ) : EReal)) :
    min (Ideal.ofBits .f32 0x42700000#32) (max (Ideal.ofBits .f32 0xC2700000#32) y) = y := by
  rw [ofBits_60, ofBits_neg_60, max_eq_right h.1, min_eq_right h.2]

/-! ## The precondition, read back -/

section Pre

open Cert.Pre_shares_within_15_KernelIdeal

variable [Cert.Pre_shares_within_15_KernelIdeal.Facts]

/-- The precondition bounds every element of a device's product. -/
theorem pre_dot (x : FVec Ideal Cert.Pre_shares_within_15_KernelIdeal.S4096x1024 .bf16) (w : FVec Ideal Cert.Pre_shares_within_15_KernelIdeal.S1024x2048 .bf16)
    (h : Cert.Pre_shares_within_15_KernelIdeal.fn (F := Ideal) x w = fun _ => 1#1) (r : Fin 4096) (n : Fin 2048) :
    ((-15 : ℝ) : EReal) ≤ (∑ k : Fin 1024, x (ix2 r k) * w (ix2 k n) : EReal) ∧ (∑ k : Fin 1024, x (ix2 r k) * w (ix2 k n) : EReal) ≤ ((15 : ℝ) : EReal) := by
  haveI : Subsingleton Cert.Pre_shares_within_15_KernelIdeal.S_.Idx := ⟨fun a b => funext fun i => i.elim0⟩
  have e := Host.reduce_andi_all _ _ _ _ ix0 (congrFun h ix0) (ix2 r n)
  have d := StackMember.dotGeneral_plain_apply (m := 4096) (n := 2048) (k := 1024) (φ₁ := .f32) (φ₂ := .f32) none x w r n
  rw [← d]
  refine within_of_abs ?_
  rw [← ofBits_15]
  exact of_decide_eq_true (BitVec.ofBool_eq_iff_eq.mp (show BitVec.ofBool (decide _) = BitVec.ofBool true from e))

end Pre

section Blocks

variable (X : Dev nD → Vec Ideal S4096x1024 .bf16) (W : Dev nD → Vec Ideal S1024x2048 .bf16)
  (A : (⟨2, ![4096, 4096]⟩ : Shape).Idx → EReal) (B : (⟨2, ![4096, 2048]⟩ : Shape).Idx → EReal)
  (hX : ∀ c, X c = Layout.block ⟨2, ![4096, 1024]⟩ ⟨2, ![4096, 4096]⟩ 1 4 c A tilesX)
  (hW : ∀ c, W c = Layout.block ⟨2, ![1024, 2048]⟩ ⟨2, ![4096, 2048]⟩ 0 4 c B tilesW)
  (hP : ∀ c, Cert.Pre_shares_within_15_KernelIdeal.fn (F := Ideal) (X c) (W c) = fun _ => 1#1)

include hX hW hP in
/-- The precondition bounds every element of the whole product. -/
theorem whole_within (r : Fin 4096) (n : Fin 2048) :
    ((-60 : ℝ) : EReal) ≤ (∑ k : Fin 4096, A (ix2 r k) * B (ix2 k n) : EReal) ∧ (∑ k : Fin 4096, A (ix2 r k) * B (ix2 k n) : EReal) ≤ ((60 : ℝ) : EReal) := by
  rw [← share_sum A B r n]
  refine sum_within _ fun q => ?_
  have e : share A B r n q = (∑ k : Fin 1024, X q (ix2 r k) * W q (ix2 k n) : EReal) :=
    Finset.sum_congr rfl fun k _ => congrArg₂ (fun a b : EReal => a * b) (X_at X A hX q (ix2 r k) r k rfl rfl).symm (W_at W B hW q (ix2 k n) k n rfl rfl).symm
  rw [e]
  exact pre_dot (X q) (W q) (hP q) r n

end Blocks

/-! ## The clipped reference -/

open Cert.ClippedReferenceIdeal in
/-- The clipped reference's activation, at an index where the clip is the identity. -/
theorem clipped_silu (y : FVec Ideal Cert.ClippedReferenceIdeal.S4096x2048 .f32) (hb : Cert.ClippedReferenceIdeal.S_.BroadcastsInDim Cert.ClippedReferenceIdeal.S4096x2048 ![])
    (h3 : FTy.bf16.bits < FTy.f32.bits) (i : Cert.ClippedReferenceIdeal.S4096x2048.Idx) (hy : ((-60 : ℝ) : EReal) ≤ y i ∧ y i ≤ ((60 : ℝ) : EReal)) :
    truncf .bf16 (Host.divf y (addf (broadcastInDim Cert.ClippedReferenceIdeal.S4096x2048 ![] hb (constant Cert.ClippedReferenceIdeal.S_ .f32 0x3F800000#32))
      (Host.exp (Host.negf (minimumf (broadcastInDim Cert.ClippedReferenceIdeal.S4096x2048 ![] hb (id (constant Cert.ClippedReferenceIdeal.S_ .f32 0x42700000#32)))
        (maximumf (broadcastInDim Cert.ClippedReferenceIdeal.S4096x2048 ![] hb (id (constant Cert.ClippedReferenceIdeal.S_ .f32 0xC2700000#32))) y)))))) h3 i = silu (y i) := by
  show Ideal.div (y i) (Ideal.ofBits .f32 0x3F800000#32 + Ideal.exp (-(min (Ideal.ofBits .f32 0x42700000#32) (max (Ideal.ofBits .f32 0xC2700000#32) (y i))))) = _
  rw [Ideal.ofBits_one_f32, clip_eq hy]; rfl

/-- The clipped reference's product, at an index. -/
theorem clipped_dot [Cert.ClippedReferenceIdeal.Facts] (A : FVec Ideal Cert.ClippedReferenceIdeal.S4096x4096 .f32) (B : FVec Ideal Cert.ClippedReferenceIdeal.S4096x2048 .f32) (i : Cert.ClippedReferenceIdeal.S4096x2048.Idx) :
    Host.dotGeneral Cert.ClippedReferenceIdeal.dot_S4096x4096_S4096x2048_S4096x2048_1_0_0_1_n_n none A B i
      = ∑ k : Fin 4096, A (ix2 (⟨(i 0).val, (i 0).isLt⟩ : Fin 4096) k) * B (ix2 k (⟨(i 1).val, (i 1).isLt⟩ : Fin 2048)) := by
  have hi : i = ix2 (⟨(i 0).val, (i 0).isLt⟩ : Fin 4096) (⟨(i 1).val, (i 1).isLt⟩ : Fin 2048) := eq_ix2 i
  refine (congrArg _ hi).trans ?_
  exact StackMember.dotGeneral_plain_apply (m := 4096) (n := 2048) (k := 4096) (φ₁ := .f32) (φ₂ := .f32) none A B _ _

end Cert.RingProof

end
-- ==== Proof.lean ====
/-
# The certificate

The kernel's run is `run_main` (Proof/Run.lean), over any float values: at the machine's words it is the frame of the
kernel, over the extended reals the frame of the ideal kernel and half of the value claim. `Gout_ideal`
(Proof/Values.lean) reads its result as the activation of the product of the whole arrays; `ref_eq` reads the
reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ClippedReferenceIdeal
public import proofs.«01_k».proof.Proof.Gen.ClippedReferenceIdeal.Run
public import proofs.«01_k».proof.Proof.Gen.Pre_shares_within_15_KernelIdeal
public import proofs.«01_k».proof.Proof.Gen.Pre_shares_within_15_ClippedReferenceIdeal
public import proofs.«01_k».proof.Proof.Run
public import proofs.«01_k».proof.Proof.Same
public import proofs.«01_k».proof.Proof.Values
public import proofs.«01_k».proof.Proof.Clip
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem Cert.RingProof

set_option maxRecDepth 1000000 in
set_option maxHeartbeats 2000000 in
/-- The kernel at the machine's words. -/
theorem frame_kernel : Cert.quiescent_Kernel := fun m ρ _ => by
  have h : θ_run (Cert.KernelIdeal.defs (F := Bits)) (onTc (τ := Cert.KernelIdeal.τ) (Cert.KernelIdeal.main (F := Bits))) (Cert.RingProof.s₀ m ρ)
      (fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
        ∧ r.2.sem = fun _ => 0) :=
    (θ_run Cert.KernelIdeal.defs _ _).mono (fun _ h => ⟨fun c => (h.1 c).2, h.2⟩) (run_main (F := Bits) m ρ)
  exact Eq.mpr (congrArg (fun D => θ_run D (onTc (τ := Cert.KernelIdeal.τ) (Cert.KernelIdeal.main (F := Bits))) (Cert.RingProof.s₀ m ρ) _) Cert.RingProof.defs_eq) h

/-- The kernel over the extended reals. -/
theorem frame_kernelIdeal : Cert.quiescent_KernelIdeal := fun m ρ _ =>
  (θ_run Cert.KernelIdeal.defs _ _).mono (fun _ h => ⟨fun c => (h.1 c).2, h.2⟩) (run_main (F := Ideal) m ρ)

/-- The reference declares no semaphore. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The reference's result of the whole arrays. -/
def refOut (A : FVec Ideal Cert.ReferenceIdeal.S4096x4096 .bf16) (B : FVec Ideal Cert.ReferenceIdeal.S4096x2048 .bf16) : FVec Ideal Cert.ReferenceIdeal.S4096x2048 .bf16 :=
  open Cert.ReferenceIdeal in open Cert.ReferenceIdeal.Gen in
  truncf .bf16 (Host.divf (Host.dotGeneral dot_S4096x4096_S4096x2048_S4096x2048_1_0_0_1_n_n none (extf .f32 A bitsLt_bf16_f32) (extf .f32 B bitsLt_bf16_f32)) (addf (broadcastInDim S4096x2048 ![] bcast_S_S4096x2048 (constant S_ .f32 0x3F800000#32)) (Host.exp (Host.negf (Host.dotGeneral dot_S4096x4096_S4096x2048_S4096x2048_1_0_0_1_n_n none (extf .f32 A bitsLt_bf16_f32) (extf .f32 B bitsLt_bf16_f32)))))) bitsLt_bf16_f32

/-- The reference's result is the kernel's. -/
theorem ref_eq (X : Dev Cert.KernelIdeal.nD → Vec Ideal Cert.KernelIdeal.S4096x1024 .bf16) (W : Dev Cert.KernelIdeal.nD → Vec Ideal Cert.KernelIdeal.S1024x2048 .bf16)
    (A : FVec Ideal Cert.ReferenceIdeal.S4096x4096 .bf16) (B : FVec Ideal Cert.ReferenceIdeal.S4096x2048 .bf16)
    (hX : ∀ c, X c = Layout.block ⟨2, ![4096, 1024]⟩ ⟨2, ![4096, 4096]⟩ 1 4 c A tilesX)
    (hW : ∀ c, W c = Layout.block ⟨2, ![1024, 2048]⟩ ⟨2, ![4096, 2048]⟩ 0 4 c B tilesW) :
    refOut A B = Gout X W :=
  funext fun i => ((ref_silu _ _ _ i).trans (congrArg silu (ref_dot A B i))).trans (Gout_ideal X W A B hX hW i).symm

/-- Kernel and reference compute the same function over the extended reals. -/
theorem value : Cert.algebraic_KernelIdeal_ReferenceIdeal := fun m ρ m' ρ' _ hagree =>
  ⟨Gm (F := Ideal) m,
    (θ_run Cert.KernelIdeal.defs _ _).mono (fun _ h c => h.1 c) (run_main (F := Ideal) m ρ),
    (θ_run Cert.ReferenceIdeal.defs _ _).mono (fun _ h => ⟨(h 0).1.trans (ref_eq (Xs m) (Ws m) _ _ (fun c => (hagree c).1) (fun c => (hagree c).2)), (h 0).2⟩)
      (Cert.ReferenceIdeal.Value.run (F := Ideal) m' ρ')⟩

/-! ## The reference with its clip, where no share of the product leaves [-15, 15] -/

/-- The kernel over the extended reals, from such arguments. -/
theorem frame_kernelIdeal_pre : Cert.quiescent_KernelIdeal_pre_shares_within_15_KernelIdeal := fun m ρ _ =>
  (θ_run Cert.KernelIdeal.defs _ _).mono (fun _ h => ⟨fun c => (h.1 c).2, h.2⟩) (run_main (F := Ideal) m ρ)

/-- The clipped reference declares no semaphore. -/
theorem frame_clippedReferenceIdeal : Cert.quiescent_ClippedReferenceIdeal := fun m ρ _ =>
  (θ_run Cert.ClippedReferenceIdeal.defs _ _).mono (fun r h => ⟨fun c => (h c).2, sem_eq_zero_of_no_sems (by decide) r.2⟩)
    (Cert.ClippedReferenceIdeal.Value.run (F := Ideal) m ρ)

theorem frame_clippedReferenceIdeal_pre : Cert.quiescent_ClippedReferenceIdeal_pre_shares_within_15_ClippedReferenceIdeal := fun m ρ _ =>
  (θ_run Cert.ClippedReferenceIdeal.defs _ _).mono (fun r h => ⟨fun c => (h c).2, sem_eq_zero_of_no_sems (by decide) r.2⟩)
    (Cert.ClippedReferenceIdeal.Value.run (F := Ideal) m ρ)

/-- The clipped reference's result of the whole arrays. -/
def clippedOut (A : FVec Ideal Cert.ClippedReferenceIdeal.S4096x4096 .bf16) (B : FVec Ideal Cert.ClippedReferenceIdeal.S4096x2048 .bf16) : FVec Ideal Cert.ClippedReferenceIdeal.S4096x2048 .bf16 :=
  open Cert.ClippedReferenceIdeal in open Cert.ClippedReferenceIdeal.Gen in
  truncf .bf16 (Host.divf (Host.dotGeneral dot_S4096x4096_S4096x2048_S4096x2048_1_0_0_1_n_n none (extf .f32 A bitsLt_bf16_f32) (extf .f32 B bitsLt_bf16_f32)) (addf (broadcastInDim S4096x2048 ![] bcast_S_S4096x2048 (constant S_ .f32 0x3F800000#32)) (Host.exp (Host.negf (minimumf (broadcastInDim S4096x2048 ![] bcast_S_S4096x2048 (id (constant S_ .f32 0x42700000#32))) (maximumf (broadcastInDim S4096x2048 ![] bcast_S_S4096x2048 (id (constant S_ .f32 0xC2700000#32))) (Host.dotGeneral dot_S4096x4096_S4096x2048_S4096x2048_1_0_0_1_n_n none (extf .f32 A bitsLt_bf16_f32) (extf .f32 B bitsLt_bf16_f32)))))))) bitsLt_bf16_f32

/-- The clipped reference's result is the kernel's. -/
theorem clipped_eq (X : Dev Cert.KernelIdeal.nD → Vec Ideal Cert.KernelIdeal.S4096x1024 .bf16) (W : Dev Cert.KernelIdeal.nD → Vec Ideal Cert.KernelIdeal.S1024x2048 .bf16)
    (A : FVec Ideal Cert.ClippedReferenceIdeal.S4096x4096 .bf16) (B : FVec Ideal Cert.ClippedReferenceIdeal.S4096x2048 .bf16)
    (hX : ∀ c, X c = Layout.block ⟨2, ![4096, 1024]⟩ ⟨2, ![4096, 4096]⟩ 1 4 c A tilesX)
    (hW : ∀ c, W c = Layout.block ⟨2, ![1024, 2048]⟩ ⟨2, ![4096, 2048]⟩ 0 4 c B tilesW)
    (hP : ∀ c, Cert.Pre_shares_within_15_KernelIdeal.fn (F := Ideal) (X c) (W c) = fun _ => 1#1) :
    clippedOut A B = Gout X W :=
  funext fun i => ((clipped_silu _ _ _ i (by rw [clipped_dot]; exact whole_within X W A B hX hW hP _ _)).trans (congrArg silu (clipped_dot A B i))).trans
    (Gout_ideal X W A B hX hW i).symm

/-- Kernel and clipped reference compute the same function over the extended reals. -/
theorem clipped_value : Cert.algebraic_KernelIdeal_ClippedReferenceIdeal_pre_shares_within_15_KernelIdeal := fun m ρ m' ρ' hpre hagree =>
  ⟨Gm (F := Ideal) m,
    (θ_run Cert.KernelIdeal.defs _ _).mono (fun _ h c => h.1 c) (run_main (F := Ideal) m ρ),
    (θ_run Cert.ClippedReferenceIdeal.defs _ _).mono
      (fun _ h => ⟨(h 0).1.trans (clipped_eq (Xs m) (Ws m) _ _ (fun c => (hagree c).1) (fun c => (hagree c).2) hpre), (h 0).2⟩)
      (Cert.ClippedReferenceIdeal.Value.run (F := Ideal) m' ρ')⟩

theorem claim : Cert.Claim := ⟨Cert.Kernel.Gen.facts, Cert.KernelIdeal.Gen.facts, Cert.ReferenceIdeal.Gen.facts,
  Cert.ClippedReferenceIdeal.Gen.facts, Cert.Pre_shares_within_15_KernelIdeal.Gen.facts, Cert.Pre_shares_within_15_ClippedReferenceIdeal.Gen.facts,
  frame_kernel, frame_kernelIdeal, frame_kernelIdeal_pre, frame_referenceIdeal, frame_clippedReferenceIdeal, frame_clippedReferenceIdeal_pre,
  trivial, value, clipped_value⟩

end Cert.Proof

end
